-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "inv48" .f32 0x3CAAAAAB#32 ((48⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v262) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S185344x32 : Shape := ⟨2, ![185344, 32]⟩
abbrev S185344 : Shape := ⟨1, ![185344]⟩
abbrev S5x32x64 : Shape := ⟨3, ![5, 32, 64]⟩
abbrev S64 : Shape := ⟨1, ![64]⟩
abbrev S5x64x64 : Shape := ⟨3, ![5, 64, 64]⟩
abbrev S5x64x128 : Shape := ⟨3, ![5, 64, 128]⟩
abbrev S128 : Shape := ⟨1, ![128]⟩
abbrev S5x128x128 : Shape := ⟨3, ![5, 128, 128]⟩
abbrev S5x128x256 : Shape := ⟨3, ![5, 128, 256]⟩
abbrev S256 : Shape := ⟨1, ![256]⟩
abbrev S5x256x256 : Shape := ⟨3, ![5, 256, 256]⟩
abbrev S5x256x512 : Shape := ⟨3, ![5, 256, 512]⟩
abbrev S512 : Shape := ⟨1, ![512]⟩
abbrev S512x1 : Shape := ⟨2, ![512, 1]⟩
abbrev S1 : Shape := ⟨1, ![1]⟩
abbrev S128x181x8x32 : Shape := ⟨4, ![128, 181, 8, 32]⟩
abbrev S128x8x181x32 : Shape := ⟨4, ![128, 8, 181, 32]⟩
abbrev S1024x181x32 : Shape := ⟨3, ![1024, 181, 32]⟩
abbrev S1x64 : Shape := ⟨2, ![1, 64]⟩
abbrev S1x128 : Shape := ⟨2, ![1, 128]⟩
abbrev S1x256 : Shape := ⟨2, ![1, 256]⟩
abbrev S1x512 : Shape := ⟨2, ![1, 512]⟩
abbrev S1x1 : Shape := ⟨2, ![1, 1]⟩
abbrev S128x1 : Shape := ⟨2, ![128, 1]⟩
abbrev S64x181x32 : Shape := ⟨3, ![64, 181, 32]⟩
abbrev S8x1 : Shape := ⟨2, ![8, 1]⟩
abbrev S64x2x32 : Shape := ⟨3, ![64, 2, 32]⟩
abbrev S64x185x32 : Shape := ⟨3, ![64, 185, 32]⟩
abbrev S11584x32 : Shape := ⟨2, ![11584, 32]⟩
abbrev S1x32x64 : Shape := ⟨3, ![1, 32, 64]⟩
abbrev S32x64 : Shape := ⟨2, ![32, 64]⟩
abbrev S11584x64 : Shape := ⟨2, ![11584, 64]⟩
abbrev S64x181x64 : Shape := ⟨3, ![64, 181, 64]⟩
abbrev S1x1x64 : Shape := ⟨3, ![1, 1, 64]⟩
abbrev S64x2x64 : Shape := ⟨3, ![64, 2, 64]⟩
abbrev S64x185x64 : Shape := ⟨3, ![64, 185, 64]⟩
abbrev S1x64x64 : Shape := ⟨3, ![1, 64, 64]⟩
abbrev S64x64 : Shape := ⟨2, ![64, 64]⟩
abbrev S64x180x64 : Shape := ⟨3, ![64, 180, 64]⟩
abbrev S64x60x3x64 : Shape := ⟨4, ![64, 60, 3, 64]⟩
abbrev S64x60x64 : Shape := ⟨3, ![64, 60, 64]⟩
abbrev S64x64x64 : Shape := ⟨3, ![64, 64, 64]⟩
abbrev S3840x64 : Shape := ⟨2, ![3840, 64]⟩
abbrev S1x64x128 : Shape := ⟨3, ![1, 64, 128]⟩
abbrev S64x128 : Shape := ⟨2, ![64, 128]⟩
abbrev S3840x128 : Shape := ⟨2, ![3840, 128]⟩
abbrev S64x60x128 : Shape := ⟨3, ![64, 60, 128]⟩
abbrev S1x1x128 : Shape := ⟨3, ![1, 1, 128]⟩
abbrev S64x2x128 : Shape := ⟨3, ![64, 2, 128]⟩
abbrev S64x64x128 : Shape := ⟨3, ![64, 64, 128]⟩
abbrev S1x128x128 : Shape := ⟨3, ![1, 128, 128]⟩
abbrev S128x128 : Shape := ⟨2, ![128, 128]⟩
abbrev S64x20x3x128 : Shape := ⟨4, ![64, 20, 3, 128]⟩
abbrev S64x20x128 : Shape := ⟨3, ![64, 20, 128]⟩
abbrev S64x24x128 : Shape := ⟨3, ![64, 24, 128]⟩
abbrev S1280x128 : Shape := ⟨2, ![1280, 128]⟩
abbrev S1x128x256 : Shape := ⟨3, ![1, 128, 256]⟩
abbrev S128x256 : Shape := ⟨2, ![128, 256]⟩
abbrev S1280x256 : Shape := ⟨2, ![1280, 256]⟩
abbrev S64x20x256 : Shape := ⟨3, ![64, 20, 256]⟩
abbrev S1x1x256 : Shape := ⟨3, ![1, 1, 256]⟩
abbrev S64x2x256 : Shape := ⟨3, ![64, 2, 256]⟩
abbrev S64x24x256 : Shape := ⟨3, ![64, 24, 256]⟩
abbrev S1x256x256 : Shape := ⟨3, ![1, 256, 256]⟩
abbrev S256x256 : Shape := ⟨2, ![256, 256]⟩
abbrev S64x18x256 : Shape := ⟨3, ![64, 18, 256]⟩
abbrev S64x6x3x256 : Shape := ⟨4, ![64, 6, 3, 256]⟩
abbrev S64x6x256 : Shape := ⟨3, ![64, 6, 256]⟩
abbrev S64x10x256 : Shape := ⟨3, ![64, 10, 256]⟩
abbrev S384x256 : Shape := ⟨2, ![384, 256]⟩
abbrev S1x256x512 : Shape := ⟨3, ![1, 256, 512]⟩
abbrev S256x512 : Shape := ⟨2, ![256, 512]⟩
abbrev S384x512 : Shape := ⟨2, ![384, 512]⟩
abbrev S64x6x512 : Shape := ⟨3, ![64, 6, 512]⟩
abbrev S1x1x512 : Shape := ⟨3, ![1, 1, 512]⟩
abbrev S8x48x512 : Shape := ⟨3, ![8, 48, 512]⟩
abbrev S8x512 : Shape := ⟨2, ![8, 512]⟩

abbrev nBuf : Space → Nat
  | .hbm => 38
  | .vmem => 20
  | .smem => 0
  | _ => 0

abbrev bufTy : (tb : Table) → Fin (tcTables nBuf tb) → BufTy
  | .hbm, ⟨0, _⟩ => ⟨S185344x32, .f32⟩
  | .hbm, ⟨1, _⟩ => ⟨S185344, .i32⟩
  | .hbm, ⟨2, _⟩ => ⟨S5x32x64, .f32⟩
  | .hbm, ⟨3, _⟩ => ⟨S64, .f32⟩
  | .hbm, ⟨4, _⟩ => ⟨S5x64x64, .f32⟩
  | .hbm, ⟨5, _⟩ => ⟨S64, .f32⟩
  | .hbm, ⟨6, _⟩ => ⟨S5x64x128, .f32⟩
  | .hbm, ⟨7, _⟩ => ⟨S128, .f32⟩
  | .hbm, ⟨8, _⟩ => ⟨S5x128x128, .f32⟩
  | .hbm, ⟨9, _⟩ => ⟨S128, .f32⟩
  | .hbm, ⟨10, _⟩ => ⟨S5x128x256, .f32⟩
  | .hbm, ⟨11, _⟩ => ⟨S256, .f32⟩
  | .hbm, ⟨12, _⟩ => ⟨S5x256x256, .f32⟩
  | .hbm, ⟨13, _⟩ => ⟨S256, .f32⟩
  | .hbm, ⟨14, _⟩ => ⟨S5x256x512, .f32⟩
  | .hbm, ⟨15, _⟩ => ⟨S512, .f32⟩
  | .hbm, ⟨16, _⟩ => ⟨S512x1, .f32⟩
  | .hbm, ⟨17, _⟩ => ⟨S1, .f32⟩
  | .hbm, ⟨18, _⟩ => ⟨S128x181x8x32, .f32⟩
  | .hbm, ⟨19, _⟩ => ⟨S128x8x181x32, .f32⟩
  | .hbm, ⟨20, _⟩ => ⟨S1024x181x32, .f32⟩
  | .hbm, ⟨21, _⟩ => ⟨S1024x181x32, .bf16⟩
  | .hbm, ⟨22, _⟩ => ⟨S1x64, .f32⟩
  | .hbm, ⟨23, _⟩ => ⟨S1x64, .f32⟩
  | .hbm, ⟨24, _⟩ => ⟨S1x128, .f32⟩
  | .hbm, ⟨25, _⟩ => ⟨S1x128, .f32⟩
  | .hbm, ⟨26, _⟩ => ⟨S1x256, .f32⟩
  | .hbm, ⟨27, _⟩ => ⟨S1x256, .f32⟩
  | .hbm, ⟨28, _⟩ => ⟨S1x512, .f32⟩
  | .hbm, ⟨29, _⟩ => ⟨S1x1, .f32⟩
  | .hbm, ⟨30, _⟩ => ⟨S5x32x64, .bf16⟩
  | .hbm, ⟨31, _⟩ => ⟨S5x64x64, .bf16⟩
  | .hbm, ⟨32, _⟩ => ⟨S5x64x128, .bf16⟩
  | .hbm, ⟨33, _⟩ => ⟨S5x128x128, .bf16⟩
  | .hbm, ⟨34, _⟩ => ⟨S5x128x256, .bf16⟩
  | .hbm, ⟨35, _⟩ => ⟨S5x256x256, .bf16⟩
  | .hbm, ⟨36, _⟩ => ⟨S5x256x512, .bf16⟩
  | .hbm, ⟨37, _⟩ => ⟨S128x1, .f32⟩
  | .local _ .vmem, ⟨0, _⟩ => ⟨S64x181x32, .bf16⟩
  | .local _ .vmem, ⟨1, _⟩ => ⟨S64x181x32, .bf16⟩
  | .local _ .vmem, ⟨2, _⟩ => ⟨S5x32x64, .bf16⟩
  | .local _ .vmem, ⟨3, _⟩ => ⟨S1x64, .f32⟩
  | .local _ .vmem, ⟨4, _⟩ => ⟨S5x64x64, .bf16⟩
  | .local _ .vmem, ⟨5, _⟩ => ⟨S1x64, .f32⟩
  | .local _ .vmem, ⟨6, _⟩ => ⟨S5x64x128, .bf16⟩
  | .local _ .vmem, ⟨7, _⟩ => ⟨S1x128, .f32⟩
  | .local _ .vmem, ⟨8, _⟩ => ⟨S5x128x128, .bf16⟩
  | .local _ .vmem, ⟨9, _⟩ => ⟨S1x128, .f32⟩
  | .local _ .vmem, ⟨10, _⟩ => ⟨S5x128x256, .bf16⟩
  | .local _ .vmem, ⟨11, _⟩ => ⟨S1x256, .f32⟩
  | .local _ .vmem, ⟨12, _⟩ => ⟨S5x256x256, .bf16⟩
  | .local _ .vmem, ⟨13, _⟩ => ⟨S1x256, .f32⟩
  | .local _ .vmem, ⟨14, _⟩ => ⟨S5x256x512, .bf16⟩
  | .local _ .vmem, ⟨15, _⟩ => ⟨S1x512, .f32⟩
  | .local _ .vmem, ⟨16, _⟩ => ⟨S512x1, .f32⟩
  | .local _ .vmem, ⟨17, _⟩ => ⟨S1x1, .f32⟩
  | .local _ .vmem, ⟨18, _⟩ => ⟨S8x1, .f32⟩
  | .local _ .vmem, ⟨19, _⟩ => ⟨S8x1, .f32⟩
  | _, _ => ⟨S185344x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x181x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x32x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x64x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5x128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S5x256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S5x256x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S8x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== KernelIdeal.lean ====
variable {F : FTy → Type} [FloatOps F] [Named F]
def κ : String → Option EReal := fun
  | "inv48" => some ((48⁻¹ : ℝ) : EReal)
  | _ => none
-- ==== ReferenceIdeal.lean ====
abbrev S185344x32 : Shape := ⟨2, ![185344, 32]⟩
abbrev S185344 : Shape := ⟨1, ![185344]⟩
abbrev S5x32x64 : Shape := ⟨3, ![5, 32, 64]⟩
abbrev S64 : Shape := ⟨1, ![64]⟩
abbrev S5x64x64 : Shape := ⟨3, ![5, 64, 64]⟩
abbrev S5x64x128 : Shape := ⟨3, ![5, 64, 128]⟩
abbrev S128 : Shape := ⟨1, ![128]⟩
abbrev S5x128x128 : Shape := ⟨3, ![5, 128, 128]⟩
abbrev S5x128x256 : Shape := ⟨3, ![5, 128, 256]⟩
abbrev S256 : Shape := ⟨1, ![256]⟩
abbrev S5x256x256 : Shape := ⟨3, ![5, 256, 256]⟩
abbrev S5x256x512 : Shape := ⟨3, ![5, 256, 512]⟩
abbrev S512 : Shape := ⟨1, ![512]⟩
abbrev S512x1 : Shape := ⟨2, ![512, 1]⟩
abbrev S1 : Shape := ⟨1, ![1]⟩
abbrev S128x181x8x32 : Shape := ⟨4, ![128, 181, 8, 32]⟩
abbrev S128x8x181x32 : Shape := ⟨4, ![128, 8, 181, 32]⟩
abbrev S1024x181x32 : Shape := ⟨3, ![1024, 181, 32]⟩
abbrev S_ : Shape := ⟨0, ![]⟩
abbrev S1024x185x32 : Shape := ⟨3, ![1024, 185, 32]⟩
abbrev S1x32x64 : Shape := ⟨3, ![1, 32, 64]⟩
abbrev S32x64 : Shape := ⟨2, ![32, 64]⟩
abbrev S1024x181x64 : Shape := ⟨3, ![1024, 181, 64]⟩
abbrev S1x1x64 : Shape := ⟨3, ![1, 1, 64]⟩
abbrev S1024x185x64 : Shape := ⟨3, ![1024, 185, 64]⟩
abbrev S1x64x64 : Shape := ⟨3, ![1, 64, 64]⟩
abbrev S64x64 : Shape := ⟨2, ![64, 64]⟩
abbrev S1024x180x64 : Shape := ⟨3, ![1024, 180, 64]⟩
abbrev S1024x60x3x64 : Shape := ⟨4, ![1024, 60, 3, 64]⟩
abbrev S1024x60x64 : Shape := ⟨3, ![1024, 60, 64]⟩
abbrev S1024x64x64 : Shape := ⟨3, ![1024, 64, 64]⟩
abbrev S1x64x128 : Shape := ⟨3, ![1, 64, 128]⟩
abbrev S64x128 : Shape := ⟨2, ![64, 128]⟩
abbrev S1024x60x128 : Shape := ⟨3, ![1024, 60, 128]⟩
abbrev S1x1x128 : Shape := ⟨3, ![1, 1, 128]⟩
abbrev S1024x64x128 : Shape := ⟨3, ![1024, 64, 128]⟩
abbrev S1x128x128 : Shape := ⟨3, ![1, 128, 128]⟩
abbrev S128x128 : Shape := ⟨2, ![128, 128]⟩
abbrev S1024x20x3x128 : Shape := ⟨4, ![1024, 20, 3, 128]⟩
abbrev S1024x20x128 : Shape := ⟨3, ![1024, 20, 128]⟩
abbrev S1024x24x128 : Shape := ⟨3, ![1024, 24, 128]⟩
abbrev S1x128x256 : Shape := ⟨3, ![1, 128, 256]⟩
abbrev S128x256 : Shape := ⟨2, ![128, 256]⟩
abbrev S1024x20x256 : Shape := ⟨3, ![1024, 20, 256]⟩
abbrev S1x1x256 : Shape := ⟨3, ![1, 1, 256]⟩
abbrev S1024x24x256 : Shape := ⟨3, ![1024, 24, 256]⟩
abbrev S1x256x256 : Shape := ⟨3, ![1, 256, 256]⟩
abbrev S256x256 : Shape := ⟨2, ![256, 256]⟩
abbrev S1024x18x256 : Shape := ⟨3, ![1024, 18, 256]⟩
abbrev S1024x6x3x256 : Shape := ⟨4, ![1024, 6, 3, 256]⟩
abbrev S1024x6x256 : Shape := ⟨3, ![1024, 6, 256]⟩
abbrev S1024x10x256 : Shape := ⟨3, ![1024, 10, 256]⟩
abbrev S1x256x512 : Shape := ⟨3, ![1, 256, 512]⟩
abbrev S256x512 : Shape := ⟨2, ![256, 512]⟩
abbrev S1024x6x512 : Shape := ⟨3, ![1024, 6, 512]⟩
abbrev S1x1x512 : Shape := ⟨3, ![1, 1, 512]⟩
abbrev S1024x512 : Shape := ⟨2, ![1024, 512]⟩
abbrev S128x8 : Shape := ⟨2, ![128, 8]⟩
abbrev S1024 : Shape := ⟨1, ![1024]⟩
abbrev S128x512 : Shape := ⟨2, ![128, 512]⟩
abbrev S1024x1 : Shape := ⟨2, ![1024, 1]⟩
abbrev S128x1 : Shape := ⟨2, ![128, 1]⟩
abbrev S1x1 : Shape := ⟨2, ![1, 1]⟩

abbrev nBuf : Space → Nat
  | .hbm => 318
  | .vmem => 0
  | .smem => 0
  | _ => 0

abbrev hbmTy0_0 (i : Nat) : BufTy := match i % 128 with
  | 0 => ⟨S185344x32, .f32⟩
  | 1 => ⟨S185344, .i32⟩
  | 2 => ⟨S5x32x64, .f32⟩
  | 3 => ⟨S64, .f32⟩
  | 4 => ⟨S5x64x64, .f32⟩
  | 5 => ⟨S64, .f32⟩
  | 6 => ⟨S5x64x128, .f32⟩
  | 7 => ⟨S128, .f32⟩
  | 8 => ⟨S5x128x128, .f32⟩
  | 9 => ⟨S128, .f32⟩
  | 10 => ⟨S5x128x256, .f32⟩
  | 11 => ⟨S256, .f32⟩
  | 12 => ⟨S5x256x256, .f32⟩
  | 13 => ⟨S256, .f32⟩
  | 14 => ⟨S5x256x512, .f32⟩
  | 15 => ⟨S512, .f32⟩
  | 16 => ⟨S512x1, .f32⟩
  | 17 => ⟨S1, .f32⟩
  | 18 => ⟨S128x181x8x32, .f32⟩
  | 19 => ⟨S128x8x181x32, .f32⟩
  | 20 => ⟨S1024x181x32, .f32⟩
  | 21 => ⟨S_, .i32⟩
  | 22 => ⟨S_, .f32⟩
  | 23 => ⟨S1024x185x32, .f32⟩
  | 24 => ⟨S1024x181x32, .f32⟩
  | 25 => ⟨S1x32x64, .f32⟩
  | 26 => ⟨S32x64, .f32⟩
  | 27 => ⟨S1024x181x64, .f32⟩
  | 28 => ⟨S1024x181x32, .f32⟩
  | 29 => ⟨S1x32x64, .f32⟩
  | 30 => ⟨S32x64, .f32⟩
  | 31 => ⟨S1024x181x64, .f32⟩
  | 32 => ⟨S1024x181x64, .f32⟩
  | 33 => ⟨S1024x181x32, .f32⟩
  | 34 => ⟨S1x32x64, .f32⟩
  | 35 => ⟨S32x64, .f32⟩
  | 36 => ⟨S1024x181x64, .f32⟩
  | 37 => ⟨S1024x181x64, .f32⟩
  | 38 => ⟨S1024x181x32, .f32⟩
  | 39 => ⟨S1x32x64, .f32⟩
  | 40 => ⟨S32x64, .f32⟩
  | 41 => ⟨S1024x181x64, .f32⟩
  | 42 => ⟨S1024x181x64, .f32⟩
  | 43 => ⟨S1024x181x32, .f32⟩
  | 44 => ⟨S1x32x64, .f32⟩
  | 45 => ⟨S32x64, .f32⟩
  | 46 => ⟨S1024x181x64, .f32⟩
  | 47 => ⟨S1024x181x64, .f32⟩
  | 48 => ⟨S1x1x64, .f32⟩
  | 49 => ⟨S1024x181x64, .f32⟩
  | 50 => ⟨S1024x181x64, .f32⟩
  | 51 => ⟨S_, .f32⟩
  | 52 => ⟨S1024x181x64, .f32⟩
  | 53 => ⟨S1024x181x64, .i1⟩
  | 54 => ⟨S_, .f32⟩
  | 55 => ⟨S1024x181x64, .f32⟩
  | 56 => ⟨S1024x181x64, .f32⟩
  | 57 => ⟨S1024x181x64, .f32⟩
  | 58 => ⟨S_, .i32⟩
  | 59 => ⟨S_, .f32⟩
  | 60 => ⟨S1024x185x64, .f32⟩
  | 61 => ⟨S1024x181x64, .f32⟩
  | 62 => ⟨S1x64x64, .f32⟩
  | 63 => ⟨S64x64, .f32⟩
  | 64 => ⟨S1024x181x64, .f32⟩
  | 65 => ⟨S1024x181x64, .f32⟩
  | 66 => ⟨S1x64x64, .f32⟩
  | 67 => ⟨S64x64, .f32⟩
  | 68 => ⟨S1024x181x64, .f32⟩
  | 69 => ⟨S1024x181x64, .f32⟩
  | 70 => ⟨S1024x181x64, .f32⟩
  | 71 => ⟨S1x64x64, .f32⟩
  | 72 => ⟨S64x64, .f32⟩
  | 73 => ⟨S1024x181x64, .f32⟩
  | 74 => ⟨S1024x181x64, .f32⟩
  | 75 => ⟨S1024x181x64, .f32⟩
  | 76 => ⟨S1x64x64, .f32⟩
  | 77 => ⟨S64x64, .f32⟩
  | 78 => ⟨S1024x181x64, .f32⟩
  | 79 => ⟨S1024x181x64, .f32⟩
  | 80 => ⟨S1024x181x64, .f32⟩
  | 81 => ⟨S1x64x64, .f32⟩
  | 82 => ⟨S64x64, .f32⟩
  | 83 => ⟨S1024x181x64, .f32⟩
  | 84 => ⟨S1024x181x64, .f32⟩
  | 85 => ⟨S1x1x64, .f32⟩
  | 86 => ⟨S1024x181x64, .f32⟩
  | 87 => ⟨S1024x181x64, .f32⟩
  | 88 => ⟨S_, .f32⟩
  | 89 => ⟨S1024x181x64, .f32⟩
  | 90 => ⟨S1024x181x64, .i1⟩
  | 91 => ⟨S_, .f32⟩
  | 92 => ⟨S1024x181x64, .f32⟩
  | 93 => ⟨S1024x181x64, .f32⟩
  | 94 => ⟨S1024x181x64, .f32⟩
  | 95 => ⟨S1024x180x64, .f32⟩
  | 96 => ⟨S1024x60x3x64, .f32⟩
  | 97 => ⟨S_, .f32⟩
  | 98 => ⟨S1024x60x64, .f32⟩
  | 99 => ⟨S_, .i32⟩
  | 100 => ⟨S_, .f32⟩
  | 101 => ⟨S1024x64x64, .f32⟩
  | 102 => ⟨S1024x60x64, .f32⟩
  | 103 => ⟨S1x64x128, .f32⟩
  | 104 => ⟨S64x128, .f32⟩
  | 105 => ⟨S1024x60x128, .f32⟩
  | 106 => ⟨S1024x60x64, .f32⟩
  | 107 => ⟨S1x64x128, .f32⟩
  | 108 => ⟨S64x128, .f32⟩
  | 109 => ⟨S1024x60x128, .f32⟩
  | 110 => ⟨S1024x60x128, .f32⟩
  | 111 => ⟨S1024x60x64, .f32⟩
  | 112 => ⟨S1x64x128, .f32⟩
  | 113 => ⟨S64x128, .f32⟩
  | 114 => ⟨S1024x60x128, .f32⟩
  | 115 => ⟨S1024x60x128, .f32⟩
  | 116 => ⟨S1024x60x64, .f32⟩
  | 117 => ⟨S1x64x128, .f32⟩
  | 118 => ⟨S64x128, .f32⟩
  | 119 => ⟨S1024x60x128, .f32⟩
  | 120 => ⟨S1024x60x128, .f32⟩
  | 121 => ⟨S1024x60x64, .f32⟩
  | 122 => ⟨S1x64x128, .f32⟩
  | 123 => ⟨S64x128, .f32⟩
  | 124 => ⟨S1024x60x128, .f32⟩
  | 125 => ⟨S1024x60x128, .f32⟩
  | 126 => ⟨S1x1x128, .f32⟩
  | 127 => ⟨S1024x60x128, .f32⟩
  | _ => ⟨S185344x32, .f32⟩

abbrev hbmTy0_1 (i : Nat) : BufTy := match i % 128 with
  | 0 => ⟨S1024x60x128, .f32⟩
  | 1 => ⟨S_, .f32⟩
  | 2 => ⟨S1024x60x128, .f32⟩
  | 3 => ⟨S1024x60x128, .i1⟩
  | 4 => ⟨S_, .f32⟩
  | 5 => ⟨S1024x60x128, .f32⟩
  | 6 => ⟨S1024x60x128, .f32⟩
  | 7 => ⟨S1024x60x128, .f32⟩
  | 8 => ⟨S_, .i32⟩
  | 9 => ⟨S_, .f32⟩
  | 10 => ⟨S1024x64x128, .f32⟩
  | 11 => ⟨S1024x60x128, .f32⟩
  | 12 => ⟨S1x128x128, .f32⟩
  | 13 => ⟨S128x128, .f32⟩
  | 14 => ⟨S1024x60x128, .f32⟩
  | 15 => ⟨S1024x60x128, .f32⟩
  | 16 => ⟨S1x128x128, .f32⟩
  | 17 => ⟨S128x128, .f32⟩
  | 18 => ⟨S1024x60x128, .f32⟩
  | 19 => ⟨S1024x60x128, .f32⟩
  | 20 => ⟨S1024x60x128, .f32⟩
  | 21 => ⟨S1x128x128, .f32⟩
  | 22 => ⟨S128x128, .f32⟩
  | 23 => ⟨S1024x60x128, .f32⟩
  | 24 => ⟨S1024x60x128, .f32⟩
  | 25 => ⟨S1024x60x128, .f32⟩
  | 26 => ⟨S1x128x128, .f32⟩
  | 27 => ⟨S128x128, .f32⟩
  | 28 => ⟨S1024x60x128, .f32⟩
  | 29 => ⟨S1024x60x128, .f32⟩
  | 30 => ⟨S1024x60x128, .f32⟩
  | 31 => ⟨S1x128x128, .f32⟩
  | 32 => ⟨S128x128, .f32⟩
  | 33 => ⟨S1024x60x128, .f32⟩
  | 34 => ⟨S1024x60x128, .f32⟩
  | 35 => ⟨S1x1x128, .f32⟩
  | 36 => ⟨S1024x60x128, .f32⟩
  | 37 => ⟨S1024x60x128, .f32⟩
  | 38 => ⟨S_, .f32⟩
  | 39 => ⟨S1024x60x128, .f32⟩
  | 40 => ⟨S1024x60x128, .i1⟩
  | 41 => ⟨S_, .f32⟩
  | 42 => ⟨S1024x60x128, .f32⟩
  | 43 => ⟨S1024x60x128, .f32⟩
  | 44 => ⟨S1024x60x128, .f32⟩
  | 45 => ⟨S1024x20x3x128, .f32⟩
  | 46 => ⟨S_, .f32⟩
  | 47 => ⟨S1024x20x128, .f32⟩
  | 48 => ⟨S_, .i32⟩
  | 49 => ⟨S_, .f32⟩
  | 50 => ⟨S1024x24x128, .f32⟩
  | 51 => ⟨S1024x20x128, .f32⟩
  | 52 => ⟨S1x128x256, .f32⟩
  | 53 => ⟨S128x256, .f32⟩
  | 54 => ⟨S1024x20x256, .f32⟩
  | 55 => ⟨S1024x20x128, .f32⟩
  | 56 => ⟨S1x128x256, .f32⟩
  | 57 => ⟨S128x256, .f32⟩
  | 58 => ⟨S1024x20x256, .f32⟩
  | 59 => ⟨S1024x20x256, .f32⟩
  | 60 => ⟨S1024x20x128, .f32⟩
  | 61 => ⟨S1x128x256, .f32⟩
  | 62 => ⟨S128x256, .f32⟩
  | 63 => ⟨S1024x20x256, .f32⟩
  | 64 => ⟨S1024x20x256, .f32⟩
  | 65 => ⟨S1024x20x128, .f32⟩
  | 66 => ⟨S1x128x256, .f32⟩
  | 67 => ⟨S128x256, .f32⟩
  | 68 => ⟨S1024x20x256, .f32⟩
  | 69 => ⟨S1024x20x256, .f32⟩
  | 70 => ⟨S1024x20x128, .f32⟩
  | 71 => ⟨S1x128x256, .f32⟩
  | 72 => ⟨S128x256, .f32⟩
  | 73 => ⟨S1024x20x256, .f32⟩
  | 74 => ⟨S1024x20x256, .f32⟩
  | 75 => ⟨S1x1x256, .f32⟩
  | 76 => ⟨S1024x20x256, .f32⟩
  | 77 => ⟨S1024x20x256, .f32⟩
  | 78 => ⟨S_, .f32⟩
  | 79 => ⟨S1024x20x256, .f32⟩
  | 80 => ⟨S1024x20x256, .i1⟩
  | 81 => ⟨S_, .f32⟩
  | 82 => ⟨S1024x20x256, .f32⟩
  | 83 => ⟨S1024x20x256, .f32⟩
  | 84 => ⟨S1024x20x256, .f32⟩
  | 85 => ⟨S_, .i32⟩
  | 86 => ⟨S_, .f32⟩
  | 87 => ⟨S1024x24x256, .f32⟩
  | 88 => ⟨S1024x20x256, .f32⟩
  | 89 => ⟨S1x256x256, .f32⟩
  | 90 => ⟨S256x256, .f32⟩
  | 91 => ⟨S1024x20x256, .f32⟩
  | 92 => ⟨S1024x20x256, .f32⟩
  | 93 => ⟨S1x256x256, .f32⟩
  | 94 => ⟨S256x256, .f32⟩
  | 95 => ⟨S1024x20x256, .f32⟩
  | 96 => ⟨S1024x20x256, .f32⟩
  | 97 => ⟨S1024x20x256, .f32⟩
  | 98 => ⟨S1x256x256, .f32⟩
  | 99 => ⟨S256x256, .f32⟩
  | 100 => ⟨S1024x20x256, .f32⟩
  | 101 => ⟨S1024x20x256, .f32⟩
  | 102 => ⟨S1024x20x256, .f32⟩
  | 103 => ⟨S1x256x256, .f32⟩
  | 104 => ⟨S256x256, .f32⟩
  | 105 => ⟨S1024x20x256, .f32⟩
  | 106 => ⟨S1024x20x256, .f32⟩
  | 107 => ⟨S1024x20x256, .f32⟩
  | 108 => ⟨S1x256x256, .f32⟩
  | 109 => ⟨S256x256, .f32⟩
  | 110 => ⟨S1024x20x256, .f32⟩
  | 111 => ⟨S1024x20x256, .f32⟩
  | 112 => ⟨S1x1x256, .f32⟩
  | 113 => ⟨S1024x20x256, .f32⟩
  | 114 => ⟨S1024x20x256, .f32⟩
  | 115 => ⟨S_, .f32⟩
  | 116 => ⟨S1024x20x256, .f32⟩
  | 117 => ⟨S1024x20x256, .i1⟩
  | 118 => ⟨S_, .f32⟩
  | 119 => ⟨S1024x20x256, .f32⟩
  | 120 => ⟨S1024x20x256, .f32⟩
  | 121 => ⟨S1024x20x256, .f32⟩
  | 122 => ⟨S1024x18x256, .f32⟩
  | 123 => ⟨S1024x6x3x256, .f32⟩
  | 124 => ⟨S_, .f32⟩
  | 125 => ⟨S1024x6x256, .f32⟩
  | 126 => ⟨S_, .i32⟩
  | 127 => ⟨S_, .f32⟩
  | _ => ⟨S185344x32, .f32⟩

abbrev hbmTy0_2 (i : Nat) : BufTy := match i % 128 with
  | 0 => ⟨S1024x10x256, .f32⟩
  | 1 => ⟨S1024x6x256, .f32⟩
  | 2 => ⟨S1x256x512, .f32⟩
  | 3 => ⟨S256x512, .f32⟩
  | 4 => ⟨S1024x6x512, .f32⟩
  | 5 => ⟨S1024x6x256, .f32⟩
  | 6 => ⟨S1x256x512, .f32⟩
  | 7 => ⟨S256x512, .f32⟩
  | 8 => ⟨S1024x6x512, .f32⟩
  | 9 => ⟨S1024x6x512, .f32⟩
  | 10 => ⟨S1024x6x256, .f32⟩
  | 11 => ⟨S1x256x512, .f32⟩
  | 12 => ⟨S256x512, .f32⟩
  | 13 => ⟨S1024x6x512, .f32⟩
  | 14 => ⟨S1024x6x512, .f32⟩
  | 15 => ⟨S1024x6x256, .f32⟩
  | 16 => ⟨S1x256x512, .f32⟩
  | 17 => ⟨S256x512, .f32⟩
  | 18 => ⟨S1024x6x512, .f32⟩
  | 19 => ⟨S1024x6x512, .f32⟩
  | 20 => ⟨S1024x6x256, .f32⟩
  | 21 => ⟨S1x256x512, .f32⟩
  | 22 => ⟨S256x512, .f32⟩
  | 23 => ⟨S1024x6x512, .f32⟩
  | 24 => ⟨S1024x6x512, .f32⟩
  | 25 => ⟨S1x1x512, .f32⟩
  | 26 => ⟨S1024x6x512, .f32⟩
  | 27 => ⟨S1024x6x512, .f32⟩
  | 28 => ⟨S_, .f32⟩
  | 29 => ⟨S1024x6x512, .f32⟩
  | 30 => ⟨S1024x6x512, .i1⟩
  | 31 => ⟨S_, .f32⟩
  | 32 => ⟨S1024x6x512, .f32⟩
  | 33 => ⟨S1024x6x512, .f32⟩
  | 34 => ⟨S1024x6x512, .f32⟩
  | 35 => ⟨S_, .f32⟩
  | 36 => ⟨S1024x512, .f32⟩
  | 37 => ⟨S_, .f32⟩
  | 38 => ⟨S1024x512, .f32⟩
  | 39 => ⟨S1024x512, .f32⟩
  | 40 => ⟨S128, .i32⟩
  | 41 => ⟨S128x8, .i32⟩
  | 42 => ⟨S1024, .i32⟩
  | 43 => ⟨S_, .f32⟩
  | 44 => ⟨S128x512, .f32⟩
  | 45 => ⟨S1024x1, .i32⟩
  | 46 => ⟨S128x512, .f32⟩
  | 47 => ⟨S_, .f32⟩
  | 48 => ⟨S128x512, .f32⟩
  | 49 => ⟨S128x512, .f32⟩
  | 50 => ⟨S128x1, .f32⟩
  | 51 => ⟨S1x1, .f32⟩
  | 52 => ⟨S128x1, .f32⟩
  | 53 => ⟨S128x1, .f32⟩
  | 54 => ⟨S128x1, .f32⟩
  | 55 => ⟨S128x1, .f32⟩
  | 56 => ⟨S_, .f32⟩
  | 57 => ⟨S128x1, .f32⟩
  | 58 => ⟨S128x1, .f32⟩
  | 59 => ⟨S_, .f32⟩
  | 60 => ⟨S128x1, .f32⟩
  | 61 => ⟨S128x1, .f32⟩
  | _ => ⟨S185344x32, .f32⟩

abbrev hbmTy (i : Nat) : BufTy := match i / 128 with
  | 0 => hbmTy0_0 i
  | 1 => hbmTy0_1 i
  | 2 => hbmTy0_2 i
  | _ => ⟨S185344x32, .f32⟩

abbrev bufTy : (tb : Table) → Fin (tcTables nBuf tb) → BufTy
  | .hbm, ⟨i, _⟩ => hbmTy i
  | _, _ => ⟨S185344x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_c : Ref sig .tc := ⟨.hbm, 21, rfl⟩
abbrev main_call0_v0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst : Ref sig .tc := ⟨.hbm, 51, rfl⟩
abbrev main_v31 : Ref sig .tc := ⟨.hbm, 52, rfl⟩
abbrev main_v32 : Ref sig .tc := ⟨.hbm, 53, rfl⟩
abbrev main_cst_0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_1 : Ref sig .tc := ⟨.hbm, 58, rfl⟩
abbrev main_call2_v0 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_2 : Ref sig .tc := ⟨.hbm, 88, rfl⟩
abbrev main_v64 : Ref sig .tc := ⟨.hbm, 89, rfl⟩
abbrev main_v65 : Ref sig .tc := ⟨.hbm, 90, rfl⟩
abbrev main_cst_3 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_4 : Ref sig .tc := ⟨.hbm, 97, rfl⟩
abbrev main_v71 : Ref sig .tc := ⟨.hbm, 98, rfl⟩
abbrev main_c_5 : Ref sig .tc := ⟨.hbm, 99, rfl⟩
abbrev main_call4_v0 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_6 : Ref sig .tc := ⟨.hbm, 129, rfl⟩
abbrev main_v100 : Ref sig .tc := ⟨.hbm, 130, rfl⟩
abbrev main_v101 : Ref sig .tc := ⟨.hbm, 131, rfl⟩
abbrev main_cst_7 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_c_8 : Ref sig .tc := ⟨.hbm, 136, rfl⟩
abbrev main_call6_v0 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_cst_9 : Ref sig .tc := ⟨.hbm, 166, rfl⟩
abbrev main_v133 : Ref sig .tc := ⟨.hbm, 167, rfl⟩
abbrev main_v134 : Ref sig .tc := ⟨.hbm, 168, rfl⟩
abbrev main_cst_10 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_11 : Ref sig .tc := ⟨.hbm, 174, rfl⟩
abbrev main_v139 : Ref sig .tc := ⟨.hbm, 175, rfl⟩
abbrev main_c_12 : Ref sig .tc := ⟨.hbm, 176, rfl⟩
abbrev main_call8_v0 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_cst_13 : Ref sig .tc := ⟨.hbm, 206, rfl⟩
abbrev main_v168 : Ref sig .tc := ⟨.hbm, 207, rfl⟩
abbrev main_v169 : Ref sig .tc := ⟨.hbm, 208, rfl⟩
abbrev main_cst_14 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_c_15 : Ref sig .tc := ⟨.hbm, 213, rfl⟩
abbrev main_call10_v0 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_cst_16 : Ref sig .tc := ⟨.hbm, 243, rfl⟩
abbrev main_v201 : Ref sig .tc := ⟨.hbm, 244, rfl⟩
abbrev main_v202 : Ref sig .tc := ⟨.hbm, 245, rfl⟩
abbrev main_cst_17 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_cst_18 : Ref sig .tc := ⟨.hbm, 252, rfl⟩
abbrev main_v208 : Ref sig .tc := ⟨.hbm, 253, rfl⟩
abbrev main_c_19 : Ref sig .tc := ⟨.hbm, 254, rfl⟩
abbrev main_call12_v0 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_cst_20 : Ref sig .tc := ⟨.hbm, 284, rfl⟩
abbrev main_v237 : Ref sig .tc := ⟨.hbm, 285, rfl⟩
abbrev main_v238 : Ref sig .tc := ⟨.hbm, 286, rfl⟩
abbrev main_cst_21 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_cst_22 : Ref sig .tc := ⟨.hbm, 291, rfl⟩
abbrev main_v242 : Ref sig .tc := ⟨.hbm, 292, rfl⟩
abbrev main_cst_23 : Ref sig .tc := ⟨.hbm, 293, rfl⟩
abbrev main_v243 : Ref sig .tc := ⟨.hbm, 294, rfl⟩
abbrev main_v244 : Ref sig .tc := ⟨.hbm, 295, rfl⟩
abbrev main_v245 : Ref sig .tc := ⟨.hbm, 296, rfl⟩
abbrev main_v246 : Ref sig .tc := ⟨.hbm, 297, rfl⟩
abbrev main_v247 : Ref sig .tc := ⟨.hbm, 298, rfl⟩
abbrev main_cst_24 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩
abbrev main_cst_25 : Ref sig .tc := ⟨.hbm, 303, rfl⟩
abbrev main_v251 : Ref sig .tc := ⟨.hbm, 304, rfl⟩
abbrev main_v252 : Ref sig .tc := ⟨.hbm, 305, rfl⟩
abbrev main_v253 : Ref sig .tc := ⟨.hbm, 306, rfl⟩
abbrev main_v254 : Ref sig .tc := ⟨.hbm, 307, rfl⟩
abbrev main_v255 : Ref sig .tc := ⟨.hbm, 308, rfl⟩
abbrev main_v256 : Ref sig .tc := ⟨.hbm, 309, rfl⟩
abbrev main_v257 : Ref sig .tc := ⟨.hbm, 310, rfl⟩
abbrev main_v258 : Ref sig .tc := ⟨.hbm, 311, rfl⟩
abbrev main_cst_26 : Ref sig .tc := ⟨.hbm, 312, rfl⟩
abbrev main_v259 : Ref sig .tc := ⟨.hbm, 313, rfl⟩
abbrev main_v260 : Ref sig .tc := ⟨.hbm, 314, rfl⟩
abbrev main_cst_27 : Ref sig .tc := ⟨.hbm, 315, rfl⟩
abbrev main_v261 : Ref sig .tc := ⟨.hbm, 316, rfl⟩
abbrev main_v262 : Ref sig .tc := ⟨.hbm, 317, rfl⟩

abbrev nD : Nat := 1
abbrev τ : Topo := Topo.v7x

variable {F : FTy → Type} [FloatOps F]
-- ==== Proof.Conv.lean ====
module

public import Idealize.ShloMosaic.Lib.Pointwise
public import Idealize.ShloMosaic.Lib.Pipeline.Value
public import Idealize.ShloMosaic.Lib.KernelVsHost

@[expose] public section

set_option maxRecDepth 16384

noncomputable section

namespace Cert.Cnn

open Idealize.ShloMosaic

/-! ## The mathematics of one layer

A sequence is a function of a position and a channel. -/

/-- The sequence `X` with two zeros put before it and zeros after it, read at padded position `j`. -/
def tap {L C : Nat} (X : Fin L → Fin C → EReal) (j : Nat) (c : Fin C) : EReal :=
  if h : 2 ≤ j ∧ j - 2 < L then X ⟨j - 2, h.2⟩ c else 0

/-- One tap of the convolution: the padded sequence at `t + k` against the tap's weight matrix. -/
def tapSum {L C D : Nat} (X : Fin L → Fin C → EReal) (W : Fin 5 → Fin C → Fin D → EReal) (k : Fin 5) (t : Fin L)
    (d : Fin D) : EReal :=
  ∑ c : Fin C, tap X (t.val + k.val) c * W k c d

/-- The five-tap convolution over the padded sequence, with its bias. -/
def conv {L C D : Nat} (W : Fin 5 → Fin C → Fin D → EReal) (b : Fin D → EReal) (X : Fin L → Fin C → EReal)
    (t : Fin L) (d : Fin D) : EReal :=
  tapSum X W 0 t d + tapSum X W 1 t d + tapSum X W 2 t d + tapSum X W 3 t d + tapSum X W 4 t d + b d

/-- The leaky rectifier: the value where it is positive, the slope times it elsewhere. -/
def lrelu (y : EReal) : EReal :=
  if 0 < y then y else Ideal.ofBits .f32 0x3E99999A#32 * y

/-- The greatest of three values. -/
def max3 (f : Fin 3 → EReal) : EReal := max (max (f 0) (f 1)) (f 2)

/-- Pooling by windows of three positions. -/
def pool {L C : Nat} (L' : Nat) (h : 3 * L' ≤ L) (X : Fin L → Fin C → EReal) (t : Fin L') (c : Fin C) : EReal :=
  max3 fun k => X ⟨3 * t.val + k.val, by omega⟩ c

/-! ## The layer as the kernel spells it -/

section Kernel

variable {B L C D M P : Nat}

/-- The three pieces the kernel joins to pad a block of sequences. -/
def pieces (z : FVec Ideal ⟨3, ![B, 2, C]⟩ .bf16) (x : FVec Ideal ⟨3, ![B, L, C]⟩ .bf16) :
    List ((s : Shape) × (s.Idx → EReal)) :=
  [⟨⟨3, ![B, 2, C]⟩, z⟩, ⟨⟨3, ![B, L, C]⟩, x⟩, ⟨⟨3, ![B, 2, C]⟩, z⟩]

/-- Away from the position axis, changing the position changes no coordinate. -/
theorem off_axis (n : Fin B) {Q : Nat} (i : Fin Q) (j : Fin P) (c : Fin C) (b : Fin 3) (hb : b ≠ 1) :
    ((ix3 n i c : (⟨3, ![B, Q, C]⟩ : Shape).Idx) b).val = ((ix3 n j c : (⟨3, ![B, P, C]⟩ : Shape).Idx) b).val := by
  fin_cases b
  · rfl
  · exact absurd rfl hb
  · rfl

/-- The kernel's padding of a block of sequences (zeros, the block and zeros joined along the positions) is, row by
    row, the padded sequence. -/
theorem concat_apply (z : FVec Ideal ⟨3, ![B, 2, C]⟩ .bf16) (x : FVec Ideal ⟨3, ![B, L, C]⟩ .bf16)
    (hz : ∀ i, z i = 0)
    (h : Shape.Concatenates ((pieces z x).map (·.1)) ⟨3, ![B, P, C]⟩ 1)
    (n : Fin B) (j : Fin P) (c : Fin C) :
    concatenate ⟨3, ![B, P, C]⟩ 1 (pieces z x) h (ix3 n j c) = tap (fun t c => x (ix3 n t c)) j.val c := by
  have hP : 2 + (L + (2 + 0)) = P := h.2.2
  have hj := j.isLt
  unfold tap
  by_cases h1 : 2 ≤ j.val
  · by_cases h2 : j.val - 2 < L
    · rw [dif_pos ⟨h1, h2⟩]
      exact concatenate_apply_piece 1 (pieces z x) h (ix3 n j c) 1 (Nat.lt_of_sub_pos (by exact Nat.zero_lt_two)) _ x rfl rfl 2 rfl
        (ix3 n ⟨j.val - 2, h2⟩ c) (fun b hb => off_axis n _ j c b hb) (show 2 + (j.val - 2) = j.val by omega)
    · rw [dif_neg fun h => h2 h.2, ← hz (ix3 n ⟨j.val - 2 - L, by omega⟩ c)]
      exact concatenate_apply_piece 1 (pieces z x) h (ix3 n j c) 2 (Nat.lt_of_sub_pos (by exact Nat.zero_lt_one)) _ z rfl rfl (2 + (L + 0)) rfl
        (ix3 n ⟨j.val - 2 - L, by omega⟩ c) (fun b hb => off_axis n _ j c b hb)
        (show 2 + (L + 0) + (j.val - 2 - L) = j.val by omega)
  · rw [dif_neg fun h => h1 h.1, ← hz (ix3 n ⟨j.val, by omega⟩ c)]
    exact concatenate_apply_piece 1 (pieces z x) h (ix3 n j c) 0 (Nat.lt_of_sub_pos (by exact Nat.zero_lt_succ 2)) _ z rfl rfl 0 rfl
      (ix3 n ⟨j.val, by omega⟩ c) (fun b hb => off_axis n _ j c b hb) (show 0 + j.val = j.val by omega)

/-- The slice of a padded block at tap `k` fits it. -/
theorem slices_x (hP : P = L + 4) (k : Fin 5) :
    (⟨3, ![B, P, C]⟩ : Shape).Slices ![0, k.val, 0] ⟨3, ![B, L, C]⟩ :=
  ⟨rfl, fun a => by
    fin_cases a
    · show 0 + B ≤ B; omega
    · show k.val + L ≤ P; omega
    · show 0 + C ≤ C; omega⟩

/-- The slice of the weights at tap `k` fits them. -/
theorem slices_w (k : Fin 5) : (⟨3, ![5, C, D]⟩ : Shape).Slices ![k.val, 0, 0] ⟨3, ![1, C, D]⟩ :=
  ⟨rfl, fun a => by
    fin_cases a
    · show k.val + 1 ≤ 5; omega
    · show 0 + C ≤ C; omega
    · show 0 + D ≤ D; omega⟩

/-- Rows of sequences laid one after another: the block of `B` sequences and the matrix of `B * L` rows have one size. -/
theorem casts_rows (hM : M = B * L) : (⟨3, ![B, L, C]⟩ : Shape).ShapeCasts ⟨2, ![M, C]⟩ := by
  subst hM; simp [Shape.ShapeCasts, Shape.numel, Fin.prod_univ_succ, mul_assoc]

/-- A one-slice stack of matrices reshapes to the matrix. -/
theorem casts_w : (⟨3, ![1, C, D]⟩ : Shape).ShapeCasts ⟨2, ![C, D]⟩ := by
  simp [Shape.ShapeCasts, Shape.numel, Fin.prod_univ_succ]

/-- A row reshapes to a row with one more unit axis. -/
theorem casts_b : (⟨2, ![1, D]⟩ : Shape).ShapeCasts ⟨3, ![1, 1, D]⟩ := by
  simp [Shape.ShapeCasts, Shape.numel, Fin.prod_univ_succ]

/-- A row of channels broadcasts over sequences and positions. -/
theorem broadcasts_b : (⟨3, ![1, 1, D]⟩ : Shape).Broadcasts ⟨3, ![B, L, D]⟩ :=
  ⟨le_rfl, fun a => by
    fin_cases a
    · exact .inl rfl
    · exact .inl rfl
    · exact .inr fun _ => rfl⟩

/-- The position of row `t` of sequence `n` among all rows. -/
def row (hM : M = B * L) (n : Fin B) (t : Fin L) : Fin M :=
  ⟨n.val * L + t.val, by
    have h1 : (n.val + 1) * L ≤ B * L := Nat.mul_le_mul_right L n.isLt
    have h2 : (n.val + 1) * L = n.val * L + L := by ring
    have := t.isLt
    omega⟩

/-- A block of sequences read as a matrix of rows. -/
theorem cast_rows_apply {α : Type} (hM : M = B * L) (x : (⟨3, ![B, L, C]⟩ : Shape).Idx → α)
    (h : (⟨3, ![B, L, C]⟩ : Shape).ShapeCasts ⟨2, ![M, C]⟩) (n : Fin B) (t : Fin L) (c : Fin C) :
    shapeCast ⟨2, ![M, C]⟩ x h (ix2 (row hM n t) c) = x (ix3 n t c) := by
  refine shapeCast_apply x h _ _ ?_
  rw [Shape.rowMajor_val_two, Shape.rowMajor_val_three]
  rfl

/-- A matrix of rows read as a block of sequences. -/
theorem cast_block_apply {α : Type} (hM : M = B * L) (x : (⟨2, ![M, C]⟩ : Shape).Idx → α)
    (h : (⟨2, ![M, C]⟩ : Shape).ShapeCasts ⟨3, ![B, L, C]⟩) (n : Fin B) (t : Fin L) (c : Fin C) :
    shapeCast ⟨3, ![B, L, C]⟩ x h (ix3 n t c) = x (ix2 (row hM n t) c) := by
  refine shapeCast_apply x h _ _ ?_
  rw [Shape.rowMajor_val_two, Shape.rowMajor_val_three]
  rfl

/-- Dropping the unit axis of one tap's weights. -/
theorem cast_w_apply {α : Type} (x : (⟨3, ![1, C, D]⟩ : Shape).Idx → α)
    (h : (⟨3, ![1, C, D]⟩ : Shape).ShapeCasts ⟨2, ![C, D]⟩) (c : Fin C) (d : Fin D) :
    shapeCast ⟨2, ![C, D]⟩ x h (ix2 c d) = x (ix3 0 c d) := by
  refine shapeCast_apply x h _ _ ?_
  rw [Shape.rowMajor_val_two, Shape.rowMajor_val_three]
  show (0 * C + c.val) * D + d.val = c.val * D + d.val
  rw [Nat.zero_mul, Nat.zero_add]

/-- The weights of tap `k`, sliced and with the unit axis dropped. -/
theorem weight_apply {α : Type} (w : (⟨3, ![5, C, D]⟩ : Shape).Idx → α) (k : Fin 5)
    (hs : (⟨3, ![5, C, D]⟩ : Shape).Slices ![k.val, 0, 0] ⟨3, ![1, C, D]⟩)
    (h : (⟨3, ![1, C, D]⟩ : Shape).ShapeCasts ⟨2, ![C, D]⟩) (c : Fin C) (d : Fin D) :
    shapeCast ⟨2, ![C, D]⟩ (extractStridedSlice ⟨3, ![1, C, D]⟩ ![k.val, 0, 0] w hs) h (ix2 c d) = w (ix3 k c d) := by
  rw [cast_w_apply]
  refine extractStridedSlice_apply _ w hs _ _ fun a => ?_
  fin_cases a
  · show k.val = k.val + 0; omega
  · show c.val = 0 + c.val; omega
  · show d.val = 0 + d.val; omega

/-- The positions `k …` of a padded block, read at a position. -/
theorem shifted_apply {α : Type} (hP : P = L + 4) (p : (⟨3, ![B, P, C]⟩ : Shape).Idx → α) (k : Fin 5)
    (hs : (⟨3, ![B, P, C]⟩ : Shape).Slices ![0, k.val, 0] ⟨3, ![B, L, C]⟩) (n : Fin B) (t : Fin L) (c : Fin C) :
    extractStridedSlice ⟨3, ![B, L, C]⟩ ![0, k.val, 0] p hs (ix3 n t c) = p (ix3 n ⟨t.val + k.val, by omega⟩ c) := by
  refine extractStridedSlice_apply _ p hs _ _ fun a => ?_
  fin_cases a
  · show n.val = 0 + n.val; omega
  · show t.val + k.val = k.val + t.val; omega
  · show c.val = 0 + c.val; omega

/-- One tap of the kernel's convolution: a matrix product of all rows at shift `k` with the tap's weights. -/
def kTap (dd : DotDims ⟨2, ![M, C]⟩ ⟨2, ![C, D]⟩ ⟨2, ![M, D]⟩) (hP : P = L + 4) (hM : M = B * L)
    (p : FVec Ideal ⟨3, ![B, P, C]⟩ .bf16) (w : FVec Ideal ⟨3, ![5, C, D]⟩ .bf16) (k : Fin 5) :
    FVec Ideal ⟨2, ![M, D]⟩ .f32 :=
  matmul dd none (shapeCast ⟨2, ![M, C]⟩ (extractStridedSlice ⟨3, ![B, L, C]⟩ ![0, k.val, 0] p (slices_x hP k)) (casts_rows hM))
    (shapeCast ⟨2, ![C, D]⟩ (extractStridedSlice ⟨3, ![1, C, D]⟩ ![k.val, 0, 0] w (slices_w k)) casts_w)
    (constant ⟨2, ![M, D]⟩ .f32 0x00000000#32)

/-- The kernel's convolution of a padded block `p`: its five taps summed from the left, and the bias. -/
def kConv (dd : DotDims ⟨2, ![M, C]⟩ ⟨2, ![C, D]⟩ ⟨2, ![M, D]⟩) (hP : P = L + 4) (hM : M = B * L)
    (p : FVec Ideal ⟨3, ![B, P, C]⟩ .bf16) (w : FVec Ideal ⟨3, ![5, C, D]⟩ .bf16) (b : FVec Ideal ⟨2, ![1, D]⟩ .f32) :
    FVec Ideal ⟨3, ![B, L, D]⟩ .f32 :=
  addf (shapeCast ⟨3, ![B, L, D]⟩ (addf (addf (addf (addf (kTap dd hP hM p w 0) (kTap dd hP hM p w 1)) (kTap dd hP hM p w 2))
      (kTap dd hP hM p w 3)) (kTap dd hP hM p w 4)) (casts_rows hM).symm)
    (broadcastTo ⟨3, ![B, L, D]⟩ (shapeCast ⟨3, ![1, 1, D]⟩ b casts_b) broadcasts_b)

/-- A plain product of matrices, read at an entry, is the sum over the shared axis: what each product the programs state
    is, given its dimension numbers. -/
def IsProduct (dd : DotDims ⟨2, ![M, C]⟩ ⟨2, ![C, D]⟩ ⟨2, ![M, D]⟩) : Prop :=
  ∀ (a : FVec Ideal ⟨2, ![M, C]⟩ .bf16) (b : FVec Ideal ⟨2, ![C, D]⟩ .bf16) (i : Fin M) (j : Fin D),
    matmul dd none a b (constant ⟨2, ![M, D]⟩ .f32 0x00000000#32) (ix2 i j)
      = ∑ k : Fin C, a (ix2 i k) * b (ix2 k j)

/-- The kernel's convolution is, sequence by sequence, the five-tap convolution of the padded sequence. -/
theorem kConv_apply {dd : DotDims ⟨2, ![M, C]⟩ ⟨2, ![C, D]⟩ ⟨2, ![M, D]⟩} (hd : IsProduct dd) (hP : P = L + 4)
    (hM : M = B * L) (p : FVec Ideal ⟨3, ![B, P, C]⟩ .bf16) (w : FVec Ideal ⟨3, ![5, C, D]⟩ .bf16)
    (b : FVec Ideal ⟨2, ![1, D]⟩ .f32) (X : Fin L → Fin C → EReal) (n : Fin B)
    (hX : ∀ (j : Fin P) (c : Fin C), p (ix3 n j c) = tap X j.val c) (t : Fin L) (d : Fin D) :
    kConv dd hP hM p w b (ix3 n t d) = conv (fun k c d => w (ix3 k c d)) (fun d => b (ix2 0 d)) X t d := by
  have hk : ∀ k : Fin 5, kTap dd hP hM p w k (ix2 (row hM n t) d) = tapSum X (fun k c d => w (ix3 k c d)) k t d := by
    intro k
    unfold kTap tapSum
    rw [hd]
    refine Finset.sum_congr rfl fun c _ => ?_
    rw [cast_rows_apply, shifted_apply hP, weight_apply, hX]
  unfold kConv conv
  simp only [addf_apply, cast_block_apply hM, hk]
  congr 1
  rw [broadcastTo_apply _ _ _ (ix3 0 0 d) fun a => ?_, shapeCast_apply b _ _ (ix2 0 d) ?_]
  · rw [Shape.rowMajor_val_two, Shape.rowMajor_val_three]
    rfl
  · fin_cases a
    · rfl
    · rfl
    · show d.val = if D = 1 then 0 else d.val
      split
      · have := d.isLt; omega
      · rfl

/-- The kernel's padding of a block of sequences, of zeros of its format. -/
def kPad (x : FVec Ideal ⟨3, ![B, L, C]⟩ .bf16)
    (h : Shape.Concatenates [⟨3, ![B, 2, C]⟩, ⟨3, ![B, L, C]⟩, ⟨3, ![B, 2, C]⟩] ⟨3, ![B, P, C]⟩ 1) :
    FVec Ideal ⟨3, ![B, P, C]⟩ .bf16 :=
  concatenate ⟨3, ![B, P, C]⟩ 1 (pieces (broadcast ⟨3, ![B, 2, C]⟩ (Scalar.ofBits .bf16 0x0000#16)) x) h

/-- A layer of the kernel, padding and convolution: sequence by sequence, the five-tap convolution. -/
theorem kLayer_apply {dd : DotDims ⟨2, ![M, C]⟩ ⟨2, ![C, D]⟩ ⟨2, ![M, D]⟩} (hd : IsProduct dd) (hP : P = L + 4)
    (hM : M = B * L) (x : FVec Ideal ⟨3, ![B, L, C]⟩ .bf16)
    (h : Shape.Concatenates [⟨3, ![B, 2, C]⟩, ⟨3, ![B, L, C]⟩, ⟨3, ![B, 2, C]⟩] ⟨3, ![B, P, C]⟩ 1)
    (w : FVec Ideal ⟨3, ![5, C, D]⟩ .bf16) (b : FVec Ideal ⟨2, ![1, D]⟩ .f32)
    (hw : (⟨3, ![5, C, D]⟩ : Shape).ShapeCasts ⟨3, ![5, C, D]⟩) (hb : (⟨2, ![1, D]⟩ : Shape).ShapeCasts ⟨2, ![1, D]⟩)
    (n : Fin B) (X : Fin L → Fin C → EReal) (hX : ∀ t c, x (ix3 n t c) = X t c) (t : Fin L) (d : Fin D) :
    kConv dd hP hM (kPad x h) (shapeCast _ w hw) (shapeCast _ b hb) (ix3 n t d)
      = conv (fun k c d => w (ix3 k c d)) (fun d => b (ix2 0 d)) X t d := by
  rw [shapeCast_self, shapeCast_self]
  refine kConv_apply hd hP hM _ w b X n (fun j c => ?_) t d
  exact (concat_apply (broadcast ⟨3, ![B, 2, C]⟩ (Scalar.ofBits .bf16 0x0000#16)) x (fun _ => Ideal.ofBits_zero_bf16) h n j c).trans
    (congrArg (fun X => tap X j.val c) (funext fun t => funext fun c => hX t c))

end Kernel

/-! ## The layer as the reference spells it -/

section Reference

variable {N L C D P : Nat}

/-- The reference's padding of the positions by two on each side is, sequence by sequence, the padded sequence. -/
theorem pad_tap_apply (hP : P = L + 4) (x : FVec Ideal ⟨3, ![N, L, C]⟩ .f32) {u : Shape} (v : FVec Ideal u .f32)
    (hu : 0 < u.numel) (hv : v (Shape.Idx.first hu) = 0)
    (h : (⟨3, ![N, L, C]⟩ : Shape).Pads ![0, 2, 0] ![0, 2, 0] ![0, 0, 0] ⟨3, ![N, P, C]⟩)
    (n : Fin N) (j : Fin P) (c : Fin C) :
    pad ⟨3, ![N, P, C]⟩ ![0, 2, 0] ![0, 2, 0] ![0, 0, 0] x v h hu (ix3 n j c)
      = tap (fun t c => x (ix3 n t c)) j.val c := by
  unfold tap
  split
  · next hj =>
    refine pad_apply_of_inside _ _ _ x v h hu _ (ix3 n ⟨j.val - 2, hj.2⟩ c) fun a => ?_
    fin_cases a
    · show n.val = 0 + n.val * (0 + 1); omega
    · show j.val = 2 + (j.val - 2) * (0 + 1); omega
    · show c.val = 0 + c.val * (0 + 1); omega
  · next hj =>
    rw [← hv]
    refine pad_apply_of_not_inside _ _ _ x v h hu _ 1 fun hin => hj ?_
    obtain ⟨h1, -, h3⟩ := hin
    have h1' : 2 ≤ j.val := h1
    have h3' : (j.val - 2) / (0 + 1) < L := h3
    rw [Nat.zero_add, Nat.div_one] at h3'
    exact ⟨h1', h3'⟩

/-- One tap of the reference's convolution. -/
def rTap (dd : DotDims ⟨3, ![N, L, C]⟩ ⟨2, ![C, D]⟩ ⟨3, ![N, L, D]⟩) (hP : P = L + 4)
    (p : FVec Ideal ⟨3, ![N, P, C]⟩ .f32) (w : FVec Ideal ⟨3, ![5, C, D]⟩ .f32) (k : Fin 5) :
    FVec Ideal ⟨3, ![N, L, D]⟩ .f32 :=
  Host.dotGeneral dd none (extractStridedSlice ⟨3, ![N, L, C]⟩ ![0, k.val, 0] p (slices_x hP k))
    (shapeCast ⟨2, ![C, D]⟩ (extractStridedSlice ⟨3, ![1, C, D]⟩ ![k.val, 0, 0] w (slices_w k)) casts_w)

/-- The reference's convolution of a padded array `p`: its five taps summed from the left, and the broadcast bias. -/
def rConv (dd : DotDims ⟨3, ![N, L, C]⟩ ⟨2, ![C, D]⟩ ⟨3, ![N, L, D]⟩) (hP : P = L + 4)
    (p : FVec Ideal ⟨3, ![N, P, C]⟩ .f32) (w : FVec Ideal ⟨3, ![5, C, D]⟩ .f32) (b : FVec Ideal ⟨3, ![N, L, D]⟩ .f32) :
    FVec Ideal ⟨3, ![N, L, D]⟩ .f32 :=
  addf (addf (addf (addf (addf (rTap dd hP p w 0) (rTap dd hP p w 1)) (rTap dd hP p w 2)) (rTap dd hP p w 3))
    (rTap dd hP p w 4)) b

/-- The reference's product of an array of sequences with a matrix, read at an entry, is the sum over the channels. -/
def IsHostProduct (dd : DotDims ⟨3, ![N, L, C]⟩ ⟨2, ![C, D]⟩ ⟨3, ![N, L, D]⟩) : Prop :=
  ∀ (a : FVec Ideal ⟨3, ![N, L, C]⟩ .f32) (b : FVec Ideal ⟨2, ![C, D]⟩ .f32) (n : Fin N) (t : Fin L) (d : Fin D),
    (Host.dotGeneral dd none a b : FVec Ideal ⟨3, ![N, L, D]⟩ .f32) (ix3 n t d)
      = ∑ k : Fin C, (a (ix3 n t k) : EReal) * b (ix2 k d)

/-- The reference's convolution is, sequence by sequence, the five-tap convolution of the padded sequence. -/
theorem rConv_apply {dd : DotDims ⟨3, ![N, L, C]⟩ ⟨2, ![C, D]⟩ ⟨3, ![N, L, D]⟩} (hd : IsHostProduct dd) (hP : P = L + 4)
    (p : FVec Ideal ⟨3, ![N, P, C]⟩ .f32) (w : FVec Ideal ⟨3, ![5, C, D]⟩ .f32) (b : FVec Ideal ⟨3, ![N, L, D]⟩ .f32)
    (β : Fin D → EReal) (hβ : ∀ n t d, b (ix3 n t d) = β d) (X : Fin L → Fin C → EReal) (n : Fin N)
    (hX : ∀ (j : Fin P) (c : Fin C), p (ix3 n j c) = tap X j.val c) (t : Fin L) (d : Fin D) :
    rConv dd hP p w b (ix3 n t d) = conv (fun k c d => w (ix3 k c d)) β X t d := by
  have hk : ∀ k : Fin 5, rTap dd hP p w k (ix3 n t d) = tapSum X (fun k c d => w (ix3 k c d)) k t d := by
    intro k
    unfold rTap tapSum
    rw [hd]
    refine Finset.sum_congr rfl fun c _ => ?_
    rw [shifted_apply hP, weight_apply, hX]
  unfold rConv conv
  simp only [addf_apply, hk, hβ]
  rfl

end Reference

/-! ## The rectifier and the pooling -/

/-- The rectifier's choice between a value and the slope times it, as both programs spell it at one element. -/
theorem select_lrelu (y : EReal) :
    Scalar.select (Ideal.cmp .ogt y 0) y (Ideal.ofBits .f32 0x3E99999A#32 * y) = lrelu y := by
  unfold lrelu Ideal.cmp
  by_cases h : 0 < y <;> simp [h, Scalar.select]

/-- The kernel's rectifier of a whole array. -/
def kAct {s : Shape} (y : FVec Ideal s .f32) : FVec Ideal s .f32 :=
  select (cmpf .ogt y (broadcast s (Scalar.ofBits .f32 0x00000000#32))) y (mulf (broadcast s (Scalar.ofBits .f32 0x3E99999A#32)) y)

/-- The kernel's rectifier at an element. -/
theorem kAct_apply {s : Shape} (y : FVec Ideal s .f32) (i : s.Idx) : kAct y i = lrelu (y i) := by
  rw [← select_lrelu, ← Ideal.ofBits_zero_f32]; rfl

/-- The reference's rectifier of a whole array. -/
def rAct {s : Shape} (h : (⟨0, ![]⟩ : Shape).BroadcastsInDim s ![]) (y : FVec Ideal s .f32) : FVec Ideal s .f32 :=
  select (cmpf .ogt y (broadcastInDim s ![] h (constant ⟨0, ![]⟩ .f32 0x00000000#32))) y
    (mulf (broadcastInDim s ![] h (constant ⟨0, ![]⟩ .f32 0x3E99999A#32)) y)

/-- The reference's rectifier at an element. -/
theorem rAct_apply {s : Shape} (h : (⟨0, ![]⟩ : Shape).BroadcastsInDim s ![]) (y : FVec Ideal s .f32) (i : s.Idx) :
    rAct h y i = lrelu (y i) := by
  rw [← select_lrelu, ← Ideal.ofBits_zero_f32]; rfl

/-- The pattern of negative infinity at sixteen bits is the least extended real. -/
theorem negInf_bf16 : Ideal.ofBits .bf16 0xFF80#16 = ⊥ := by simp [Ideal.ofBits, Ideal.ieee]

/-- The pattern of negative infinity at thirty-two bits is the least extended real. -/
theorem negInf_f32 : Ideal.ofBits .f32 0xFF800000#32 = ⊥ := by simp [Ideal.ofBits, Ideal.ieee]

/-- The greatest of three values, folded from the least extended real. -/
theorem fold_max3 (f : Fin 3 → EReal) : Finset.univ.fold max ⊥ f = max3 f := by
  have h : (Finset.univ : Finset (Fin 3)) = {0, 1, 2} := by decide
  rw [h, Finset.fold_insert (by decide), Finset.fold_insert (by decide), Finset.fold_singleton]
  unfold max3
  rw [max_bot_right, max_assoc]

/-- Positions grouped by three, and the positions left over dropped: entry `(n, t, k, c)` is position `3 t + k`. -/
theorem windows_apply {α : Type} {B L Q L' C : Nat} (hQ : Q = 3 * L') (hL : Q ≤ L)
    (x : (⟨3, ![B, L, C]⟩ : Shape).Idx → α)
    (hs : (⟨3, ![B, L, C]⟩ : Shape).Slices ![0, 0, 0] ⟨3, ![B, Q, C]⟩)
    (h : (⟨3, ![B, Q, C]⟩ : Shape).ShapeCasts ⟨4, ![B, L', 3, C]⟩) (n : Fin B) (t : Fin L') (k : Fin 3) (c : Fin C) :
    shapeCast ⟨4, ![B, L', 3, C]⟩ (extractStridedSlice ⟨3, ![B, Q, C]⟩ ![0, 0, 0] x hs) h (ix4 n t k c)
      = x (ix3 n ⟨3 * t.val + k.val, by omega⟩ c) := by
  subst hQ
  rw [shapeCast_apply _ _ _ (ix3 n ⟨3 * t.val + k.val, by omega⟩ c) ?_]
  · refine extractStridedSlice_apply _ x hs _ _ fun a => ?_
    fin_cases a
    · show n.val = 0 + n.val; omega
    · show 3 * t.val + k.val = 0 + (3 * t.val + k.val); omega
    · show c.val = 0 + c.val; omega
  · rw [Shape.rowMajor_val_three, Shape.rowMajor_val_four]
    show (n.val * (3 * L') + (3 * t.val + k.val)) * C + c.val = ((n.val * L' + t.val) * 3 + k.val) * C + c.val
    ring

/-- Positions grouped by three where none is left over. -/
theorem windows_whole_apply {α : Type} {B L L' C : Nat} (hL : L = 3 * L') (x : (⟨3, ![B, L, C]⟩ : Shape).Idx → α)
    (h : (⟨3, ![B, L, C]⟩ : Shape).ShapeCasts ⟨4, ![B, L', 3, C]⟩) (n : Fin B) (t : Fin L') (k : Fin 3) (c : Fin C) :
    shapeCast ⟨4, ![B, L', 3, C]⟩ x h (ix4 n t k c) = x (ix3 n ⟨3 * t.val + k.val, by omega⟩ c) := by
  subst hL
  refine shapeCast_apply _ _ _ (ix3 n ⟨3 * t.val + k.val, by omega⟩ c) ?_
  rw [Shape.rowMajor_val_three, Shape.rowMajor_val_four]
  show (n.val * (3 * L') + (3 * t.val + k.val)) * C + c.val = ((n.val * L' + t.val) * 3 + k.val) * C + c.val
  ring

/-! ## The network -/

/-- The parameters of the network: the weights and the bias of each convolution, and of the dense layer. -/
structure Params where
  w1 : Fin 5 → Fin 32 → Fin 64 → EReal
  b1 : Fin 64 → EReal
  w2 : Fin 5 → Fin 64 → Fin 64 → EReal
  b2 : Fin 64 → EReal
  w3 : Fin 5 → Fin 64 → Fin 128 → EReal
  b3 : Fin 128 → EReal
  w4 : Fin 5 → Fin 128 → Fin 128 → EReal
  b4 : Fin 128 → EReal
  w5 : Fin 5 → Fin 128 → Fin 256 → EReal
  b5 : Fin 256 → EReal
  w6 : Fin 5 → Fin 256 → Fin 256 → EReal
  b6 : Fin 256 → EReal
  w7 : Fin 5 → Fin 256 → Fin 512 → EReal
  b7 : Fin 512 → EReal
  wd : Fin 512 → EReal
  bd : EReal

/-- The rectifier on every entry of a sequence. -/
def act {L C : Nat} (X : Fin L → Fin C → EReal) (t : Fin L) (c : Fin C) : EReal := lrelu (X t c)

namespace Params

variable (q : Params) (X : Fin 181 → Fin 32 → EReal)

/-- The first convolution of a sequence. -/
def y1 : Fin 181 → Fin 64 → EReal := conv q.w1 q.b1 X
/-- The second convolution. -/
def y2 : Fin 181 → Fin 64 → EReal := conv q.w2 q.b2 (act (q.y1 X))
/-- The third convolution, after the first pooling. -/
def y3 : Fin 60 → Fin 128 → EReal := conv q.w3 q.b3 (pool 60 (by decide) (act (q.y2 X)))
/-- The fourth convolution. -/
def y4 : Fin 60 → Fin 128 → EReal := conv q.w4 q.b4 (act (q.y3 X))
/-- The fifth convolution, after the second pooling. -/
def y5 : Fin 20 → Fin 256 → EReal := conv q.w5 q.b5 (pool 20 (by decide) (act (q.y4 X)))
/-- The sixth convolution. -/
def y6 : Fin 20 → Fin 256 → EReal := conv q.w6 q.b6 (act (q.y5 X))
/-- The seventh convolution, after the third pooling. -/
def y7 : Fin 6 → Fin 512 → EReal := conv q.w7 q.b7 (pool 6 (by decide) (act (q.y6 X)))

/-- The network's output for one sample: the mean of the features over its eight sequences and their six positions, the
    dense layer and the logistic function. -/
def out (S : Fin 8 → Fin 181 → Fin 32 → EReal) : EReal :=
  Ideal.logistic ((∑ d : Fin 512, ((∑ r : Fin 8, ∑ t : Fin 6, act (q.y7 (S r)) t d) * ((48⁻¹ : ℝ) : EReal)) * q.wd d) + q.bd)

/-- The parameters read off the argument arrays. -/
def ofArrays (a2 : FVec Ideal ⟨3, ![5, 32, 64]⟩ .f32) (a3 : FVec Ideal ⟨1, ![64]⟩ .f32)
    (a4 : FVec Ideal ⟨3, ![5, 64, 64]⟩ .f32) (a5 : FVec Ideal ⟨1, ![64]⟩ .f32)
    (a6 : FVec Ideal ⟨3, ![5, 64, 128]⟩ .f32) (a7 : FVec Ideal ⟨1, ![128]⟩ .f32)
    (a8 : FVec Ideal ⟨3, ![5, 128, 128]⟩ .f32) (a9 : FVec Ideal ⟨1, ![128]⟩ .f32)
    (a10 : FVec Ideal ⟨3, ![5, 128, 256]⟩ .f32) (a11 : FVec Ideal ⟨1, ![256]⟩ .f32)
    (a12 : FVec Ideal ⟨3, ![5, 256, 256]⟩ .f32) (a13 : FVec Ideal ⟨1, ![256]⟩ .f32)
    (a14 : FVec Ideal ⟨3, ![5, 256, 512]⟩ .f32) (a15 : FVec Ideal ⟨1, ![512]⟩ .f32)
    (a16 : FVec Ideal ⟨2, ![512, 1]⟩ .f32) (a17 : FVec Ideal ⟨1, ![1]⟩ .f32) : Params where
  w1 := fun k c d => a2 (ix3 k c d)
  b1 := fun d => a3 (ix1 d)
  w2 := fun k c d => a4 (ix3 k c d)
  b2 := fun d => a5 (ix1 d)
  w3 := fun k c d => a6 (ix3 k c d)
  b3 := fun d => a7 (ix1 d)
  w4 := fun k c d => a8 (ix3 k c d)
  b4 := fun d => a9 (ix1 d)
  w5 := fun k c d => a10 (ix3 k c d)
  b5 := fun d => a11 (ix1 d)
  w6 := fun k c d => a12 (ix3 k c d)
  b6 := fun d => a13 (ix1 d)
  w7 := fun k c d => a14 (ix3 k c d)
  b7 := fun d => a15 (ix1 d)
  wd := fun d => a16 (ix2 d 0)
  bd := a17 (ix1 0)

end Params

end Cert.Cnn
end
-- ==== Proof.Kernel.lean ====
module

public import proofs.«01_k».proof.Proof.Conv
public import proofs.«01_k».proof.Proof.Gen.KernelIdeal.Skeleton

@[expose] public section

set_option maxRecDepth 16384

noncomputable section

/-! The kernel body's values, sequence by sequence: each convolution it computes is the network's layer of the
    sequence in the same row of the block it was given. -/

namespace Cert.KernelIdeal.Rows

open Idealize.ShloMosaic Cert.Cnn Cert.KernelIdeal.Gen Cert.KernelIdeal

/-! ## The matrix products -/

/-- The first convolution's product, read at an entry, is the sum over the channels. -/
theorem prod1 : IsProduct dot_S11584x32_S32x64_S11584x64_1_0_0_1_n_n := fun a b i j => by pointwise
/-- The second convolution's product, read at an entry, is the sum over the channels. -/
theorem prod2 : IsProduct dot_S11584x64_S64x64_S11584x64_1_0_0_1_n_n := fun a b i j => by pointwise
/-- The third convolution's product, read at an entry, is the sum over the channels. -/
theorem prod3 : IsProduct dot_S3840x64_S64x128_S3840x128_1_0_0_1_n_n := fun a b i j => by pointwise
/-- The fourth convolution's product, read at an entry, is the sum over the channels. -/
theorem prod4 : IsProduct dot_S3840x128_S128x128_S3840x128_1_0_0_1_n_n := fun a b i j => by pointwise
/-- The fifth convolution's product, read at an entry, is the sum over the channels. -/
theorem prod5 : IsProduct dot_S1280x128_S128x256_S1280x256_1_0_0_1_n_n := fun a b i j => by pointwise
/-- The sixth convolution's product, read at an entry, is the sum over the channels. -/
theorem prod6 : IsProduct dot_S1280x256_S256x256_S1280x256_1_0_0_1_n_n := fun a b i j => by pointwise
/-- The seventh convolution's product, read at an entry, is the sum over the channels. -/
theorem prod7 : IsProduct dot_S384x256_S256x512_S384x512_1_0_0_1_n_n := fun a b i j => by pointwise

/-! ## The poolings -/

/-- The greatest of each window of three, at the first pooling's extents. -/
theorem max_60 (x : FVec Ideal S64x60x3x64 .bf16) (n : Fin 64) (t : Fin 60) (c : Fin 64) :
    multiReduction .maximumf [2] S64x60x64 x 0xFF80#16 reduces_S64x60x3x64_S64x60x64 (.inr rfl) rfl (ix3 n t c)
      = max3 fun k => x (ix4 n t k c) := by
  rw [← fold_max3, ← negInf_bf16]; pointwise

/-- The greatest of each window of three, at the second pooling's extents. -/
theorem max_20 (x : FVec Ideal S64x20x3x128 .bf16) (n : Fin 64) (t : Fin 20) (c : Fin 128) :
    multiReduction .maximumf [2] S64x20x128 x 0xFF80#16 reduces_S64x20x3x128_S64x20x128 (.inr rfl) rfl (ix3 n t c)
      = max3 fun k => x (ix4 n t k c) := by
  rw [← fold_max3, ← negInf_bf16]; pointwise

/-- The greatest of each window of three, at the third pooling's extents. -/
theorem max_6 (x : FVec Ideal S64x6x3x256 .bf16) (n : Fin 64) (t : Fin 6) (c : Fin 256) :
    multiReduction .maximumf [2] S64x6x256 x 0xFF80#16 reduces_S64x6x3x256_S64x6x256 (.inr rfl) rfl (ix3 n t c)
      = max3 fun k => x (ix4 n t k c) := by
  rw [← fold_max3, ← negInf_bf16]; pointwise

/-- The first pooling of a block as the kernel spells it. -/
def kPool60 (a : FVec Ideal S64x181x64 .bf16) : FVec Ideal S64x60x64 .bf16 :=
  multiReduction .maximumf [2] S64x60x64 (shapeCast S64x60x3x64 (extractStridedSlice S64x180x64 ![0, 0, 0] a
      slices_S64x181x64_o0_0_0_S64x180x64) shapeCasts_S64x180x64_S64x60x3x64)
      0xFF80#16 reduces_S64x60x3x64_S64x60x64 (.inr rfl) rfl

/-- The first pooling of a block, sequence by sequence. -/
theorem pool_60 (a : FVec Ideal S64x181x64 .bf16) (n : Fin 64) (A : Fin 181 → Fin 64 → EReal)
    (hA : ∀ t c, a (ix3 n t c) = A t c) (t : Fin 60) (c : Fin 64) :
    kPool60 a (ix3 n t c) = pool 60 (by decide) A t c := by
  unfold kPool60
  rw [max_60]
  exact congrArg max3 (funext fun k => by rw [windows_apply (L' := 60) (by norm_num) (by norm_num), hA])

/-- The second pooling of a block as the kernel spells it. -/
def kPool20 (a : FVec Ideal S64x60x128 .bf16) : FVec Ideal S64x20x128 .bf16 :=
  multiReduction .maximumf [2] S64x20x128 (shapeCast S64x20x3x128 a shapeCasts_S64x60x128_S64x20x3x128)
      0xFF80#16 reduces_S64x20x3x128_S64x20x128 (.inr rfl) rfl

/-- The second pooling of a block, sequence by sequence. -/
theorem pool_20 (a : FVec Ideal S64x60x128 .bf16) (n : Fin 64) (A : Fin 60 → Fin 128 → EReal)
    (hA : ∀ t c, a (ix3 n t c) = A t c) (t : Fin 20) (c : Fin 128) :
    kPool20 a (ix3 n t c) = pool 20 (by decide) A t c := by
  unfold kPool20
  rw [max_20]
  exact congrArg max3 (funext fun k => by rw [windows_whole_apply (L' := 20) (by norm_num), hA])

/-- The third pooling of a block as the kernel spells it. -/
def kPool6 (a : FVec Ideal S64x20x256 .bf16) : FVec Ideal S64x6x256 .bf16 :=
  multiReduction .maximumf [2] S64x6x256 (shapeCast S64x6x3x256 (extractStridedSlice S64x18x256 ![0, 0, 0] a
      slices_S64x20x256_o0_0_0_S64x18x256) shapeCasts_S64x18x256_S64x6x3x256)
      0xFF80#16 reduces_S64x6x3x256_S64x6x256 (.inr rfl) rfl

/-- The third pooling of a block, sequence by sequence. -/
theorem pool_6 (a : FVec Ideal S64x20x256 .bf16) (n : Fin 64) (A : Fin 20 → Fin 256 → EReal)
    (hA : ∀ t c, a (ix3 n t c) = A t c) (t : Fin 6) (c : Fin 256) :
    kPool6 a (ix3 n t c) = pool 6 (by decide) A t c := by
  unfold kPool6
  rw [max_6]
  exact congrArg max3 (funext fun k => by rw [windows_apply (L' := 6) (by norm_num) (by norm_num), hA])

/-! ## The layers -/

/-- The kernel's rectifier, rounded to the narrow format, is the rectified sequence. -/
theorem act_row {B L C : Nat} (y : FVec Ideal ⟨3, ![B, L, C]⟩ .f32) (n : Fin B) (Y : Fin L → Fin C → EReal)
    (hY : ∀ t c, y (ix3 n t c) = Y t c) (t : Fin L) (c : Fin C) :
    (truncf .bf16 (kAct y) bitsLt_bf16_f32 : FVec Ideal ⟨3, ![B, L, C]⟩ .bf16) (ix3 n t c) = act Y t c := by
  rw [truncf_apply, kAct_apply, hY]; rfl

/-- The first convolution. -/
theorem conv1_row (x : Vec Ideal S64x181x32 .bf16) (w : Vec Ideal S5x32x64 .bf16) (b : Vec Ideal S1x64 .f32) (n : Fin 64)
    (X : Fin 181 → Fin 32 → EReal) (hX : ∀ t c, x (ix3 n t c) = X t c) (t : Fin 181) (d : Fin 64) :
    k0_pay2 x w b (ix3 n t d) = conv (fun k c d => w (ix3 k c d)) (fun d => b (ix2 0 d)) X t d :=
  kLayer_apply prod1 rfl rfl (shapeCast S64x181x32 x shapeCasts_S64x181x32_S64x181x32)
    concatenates_S64x2x32_S64x181x32_S64x2x32_S64x185x32_d1 w b shapeCasts_S5x32x64_S5x32x64 shapeCasts_S1x64_S1x64 n X
    (fun t c => by rw [shapeCast_self]; exact hX t c) t d

/-- Where the kernel's rectifier keeps a value. -/
abbrev pos {s : Shape} (y : FVec Ideal s .f32) : IVec s 1 := cmpf .ogt y (broadcast s (Scalar.ofBits .f32 0x00000000#32))

/-- The slope, at every element. -/
abbrev slope (s : Shape) : FVec Ideal s .f32 := broadcast s (Scalar.ofBits .f32 0x3E99999A#32)

/-- The second convolution, of the rectified first. -/
theorem conv2_row (y : FVec Ideal S64x181x64 .f32) (w : Vec Ideal S5x64x64 .bf16) (b : Vec Ideal S1x64 .f32) (n : Fin 64)
    (Y : Fin 181 → Fin 64 → EReal) (hY : ∀ t c, y (ix3 n t c) = Y t c) (t : Fin 181) (d : Fin 64) :
    k0_pay4 y (pos y) (Scalar.ofBits .f32 0x3E99999A#32) w b (ix3 n t d)
      = conv (fun k c d => w (ix3 k c d)) (fun d => b (ix2 0 d)) (act Y) t d :=
  kLayer_apply prod2 rfl rfl (truncf .bf16 (kAct y) bitsLt_bf16_f32) concatenates_S64x2x64_S64x181x64_S64x2x64_S64x185x64_d1
    w b shapeCasts_S5x64x64_S5x64x64 shapeCasts_S1x64_S1x64 n (act Y) (act_row y n Y hY) t d

/-- The third convolution, of the pooled rectified second. -/
theorem conv3_row (y : FVec Ideal S64x181x64 .f32) (w : Vec Ideal S5x64x128 .bf16) (b : Vec Ideal S1x128 .f32) (n : Fin 64)
    (Y : Fin 181 → Fin 64 → EReal) (hY : ∀ t c, y (ix3 n t c) = Y t c) (t : Fin 60) (d : Fin 128) :
    k0_pay7 y (pos y) (mulf (slope _) y) w b (ix3 n t d)
      = conv (fun k c d => w (ix3 k c d)) (fun d => b (ix2 0 d)) (pool 60 (by decide) (act Y)) t d :=
  kLayer_apply prod3 rfl rfl
    (kPool60 (truncf .bf16 (kAct y) bitsLt_bf16_f32))
    concatenates_S64x2x64_S64x60x64_S64x2x64_S64x64x64_d1
    w b shapeCasts_S5x64x128_S5x64x128 shapeCasts_S1x128_S1x128 n (pool 60 (by decide) (act Y))
    (pool_60 (truncf .bf16 (kAct y) bitsLt_bf16_f32) n (act Y) (act_row y n Y hY)) t d

/-- The fourth convolution, of the rectified third. -/
theorem conv4_row (y : FVec Ideal S64x60x128 .f32) (w : Vec Ideal S5x128x128 .bf16) (b : Vec Ideal S1x128 .f32) (n : Fin 64)
    (Y : Fin 60 → Fin 128 → EReal) (hY : ∀ t c, y (ix3 n t c) = Y t c) (t : Fin 60) (d : Fin 128) :
    k0_pay9 y (pos y) (Scalar.ofBits .f32 0x3E99999A#32) w b (ix3 n t d)
      = conv (fun k c d => w (ix3 k c d)) (fun d => b (ix2 0 d)) (act Y) t d :=
  kLayer_apply prod4 rfl rfl (truncf .bf16 (kAct y) bitsLt_bf16_f32) concatenates_S64x2x128_S64x60x128_S64x2x128_S64x64x128_d1
    w b shapeCasts_S5x128x128_S5x128x128 shapeCasts_S1x128_S1x128 n (act Y) (act_row y n Y hY) t d

/-- The fifth convolution, of the pooled rectified fourth. -/
theorem conv5_row (y : FVec Ideal S64x60x128 .f32) (w : Vec Ideal S5x128x256 .bf16) (b : Vec Ideal S1x256 .f32) (n : Fin 64)
    (Y : Fin 60 → Fin 128 → EReal) (hY : ∀ t c, y (ix3 n t c) = Y t c) (t : Fin 20) (d : Fin 256) :
    k0_pay12 y (pos y) (mulf (slope _) y) w b (ix3 n t d)
      = conv (fun k c d => w (ix3 k c d)) (fun d => b (ix2 0 d)) (pool 20 (by decide) (act Y)) t d :=
  kLayer_apply prod5 rfl rfl
    (kPool20 (truncf .bf16 (kAct y) bitsLt_bf16_f32))
    concatenates_S64x2x128_S64x20x128_S64x2x128_S64x24x128_d1
    w b shapeCasts_S5x128x256_S5x128x256 shapeCasts_S1x256_S1x256 n (pool 20 (by decide) (act Y))
    (pool_20 (truncf .bf16 (kAct y) bitsLt_bf16_f32) n (act Y) (act_row y n Y hY)) t d

/-- The sixth convolution, of the rectified fifth, with its own rectifier. -/
theorem conv6_row (y : FVec Ideal S64x20x256 .f32) (w : Vec Ideal S5x256x256 .bf16) (b : Vec Ideal S1x256 .f32) (n : Fin 64)
    (Y : Fin 20 → Fin 256 → EReal) (hY : ∀ t c, y (ix3 n t c) = Y t c) (t : Fin 20) (d : Fin 256) :
    k0_pay15 y (pos y) (slope _) w b (ix3 n t d)
      = act (conv (fun k c d => w (ix3 k c d)) (fun d => b (ix2 0 d)) (act Y)) t d :=
  (kAct_apply (kConv dot_S1280x256_S256x256_S1280x256_1_0_0_1_n_n rfl rfl (kPad (truncf .bf16 (kAct y) bitsLt_bf16_f32)
      concatenates_S64x2x256_S64x20x256_S64x2x256_S64x24x256_d1) (shapeCast _ w shapeCasts_S5x256x256_S5x256x256)
      (shapeCast _ b shapeCasts_S1x256_S1x256)) (ix3 n t d)).trans
    (congrArg lrelu (kLayer_apply prod6 rfl rfl (truncf .bf16 (kAct y) bitsLt_bf16_f32)
      concatenates_S64x2x256_S64x20x256_S64x2x256_S64x24x256_d1
      w b shapeCasts_S5x256x256_S5x256x256 shapeCasts_S1x256_S1x256 n (act Y) (act_row y n Y hY) t d))

/-- The seventh convolution, of the pooled rectified sixth. -/
theorem conv7_row (a : FVec Ideal S64x20x256 .f32) (w : Vec Ideal S5x256x512 .bf16) (b : Vec Ideal S1x512 .f32) (n : Fin 64)
    (A : Fin 20 → Fin 256 → EReal) (hA : ∀ t c, a (ix3 n t c) = A t c) (t : Fin 6) (d : Fin 512) :
    k0_pay16 a w b (ix3 n t d)
      = conv (fun k c d => w (ix3 k c d)) (fun d => b (ix2 0 d)) (pool 6 (by decide) A) t d :=
  kLayer_apply prod7 rfl rfl
    (kPool6 (truncf .bf16 a bitsLt_bf16_f32))
    concatenates_S64x2x256_S64x6x256_S64x2x256_S64x10x256_d1
    w b shapeCasts_S5x256x512_S5x256x512 shapeCasts_S1x512_S1x512 n (pool 6 (by decide) A)
    (pool_6 (truncf .bf16 a bitsLt_bf16_f32) n A hA) t d

/-! ## The readout -/

/-- The named constant is one forty-eighth. -/
theorem inv48 : (Named.named (F := Ideal) κ "inv48" (φ := .f32) 0x3CAAAAAB#32 : EReal) = ((48⁻¹ : ℝ) : EReal) := rfl

/-- What the kernel stores, of the rectified seventh convolution of its block. -/
def kTail (z : FVec Ideal S64x6x512 .f32) (wd : Vec Ideal S512x1 .f32) (bd : Vec Ideal S1x1 .f32) : FVec Ideal S8x1 .f32 :=
  logistic (addf (matmul (φ₂ := .f32) dot_S8x512_S512x1_S8x1_1_0_0_1_n_n none
    (mulf (multiReduction .add [1] S8x512 (shapeCast S8x48x512 z shapeCasts_S64x6x512_S8x48x512) 0x00000000#32
      reduces_S8x48x512_S8x512 (.inl rfl) rfl) (broadcast S8x512 (Named.named κ "inv48" 0x3CAAAAAB#32))) wd
    (constant S8x1 .f32 0x00000000#32))
    (broadcastTo S8x1 (shapeCast S1x1 bd shapeCasts_S1x1_S1x1) broadcasts_S1x1_S8x1))

/-- What the kernel stores for sample `s` of its block, from the block's seventh convolution: the mean over the sample's
    eight sequences and their six positions, the dense layer and the logistic function. -/
theorem readout_row (y : FVec Ideal S64x6x512 .f32) (wd : Vec Ideal S512x1 .f32) (bd : Vec Ideal S1x1 .f32) (s : Fin 8)
    (Y : Fin 8 → Fin 6 → Fin 512 → EReal) (hY : ∀ (r : Fin 8) t d, y (ix3 ⟨8 * s.val + r.val, by omega⟩ t d) = Y r t d) :
    k0_pay1 y (pos y) (slope _) wd bd (ix2 s 0)
      = Ideal.logistic ((∑ d : Fin 512, ((∑ r : Fin 8, ∑ t : Fin 6, act (Y r) t d) * ((48⁻¹ : ℝ) : EReal)) * wd (ix2 d 0))
          + bd (ix2 0 0)) := by
  have h : ∀ r t d, kAct y (ix3 ⟨8 * s.val + r.val, by omega⟩ t d) = act (Y r) t d := fun r t d => by
    rw [kAct_apply, hY]; rfl
  show kTail (kAct y) wd bd (ix2 s 0) = _
  generalize kAct y = z at h
  rw [← inv48]
  pointwise [kTail]
  refine congrArg Ideal.logistic (congrArg (· + bd (ix2 0 0)) (Finset.sum_congr rfl fun d _ => ?_))
  refine congrArg (· * wd (ix2 d 0)) (congrArg (· * _) ?_)
  rw [Fin.sum_univ_tiles 8 6 rfl]
  refine Finset.sum_congr rfl fun r _ => Finset.sum_congr rfl fun t _ => ?_
  rw [← h]
  refine congrArg z (congrArg₂ (fun n t => ix3 n t d) (Fin.ext ?_) (Fin.ext ?_))
  · show s.val * 8 + (r.val * 6 + t.val) / 6 = 8 * s.val + r.val
    omega
  · show (r.val * 6 + t.val) % 6 = t.val
    omega

/-! ## A block of the kernel -/

section Block

variable (x0 : Vec Ideal S64x181x32 .bf16) (x1 : Vec Ideal S5x32x64 .bf16) (x2 : Vec Ideal S1x64 .f32)
  (x3 : Vec Ideal S5x64x64 .bf16) (x4 : Vec Ideal S1x64 .f32) (x5 : Vec Ideal S5x64x128 .bf16) (x6 : Vec Ideal S1x128 .f32)
  (x7 : Vec Ideal S5x128x128 .bf16) (x8 : Vec Ideal S1x128 .f32) (x9 : Vec Ideal S5x128x256 .bf16) (x10 : Vec Ideal S1x256 .f32)
  (x11 : Vec Ideal S5x256x256 .bf16) (x12 : Vec Ideal S1x256 .f32) (x13 : Vec Ideal S5x256x512 .bf16)
  (x14 : Vec Ideal S1x512 .f32) (x15 : Vec Ideal S512x1 .f32) (x16 : Vec Ideal S1x1 .f32)

/-- The network's parameters, read off the blocks the kernel is given. -/
def params : Params where
  w1 := fun k c d => x1 (ix3 k c d)
  b1 := fun d => x2 (ix2 0 d)
  w2 := fun k c d => x3 (ix3 k c d)
  b2 := fun d => x4 (ix2 0 d)
  w3 := fun k c d => x5 (ix3 k c d)
  b3 := fun d => x6 (ix2 0 d)
  w4 := fun k c d => x7 (ix3 k c d)
  b4 := fun d => x8 (ix2 0 d)
  w5 := fun k c d => x9 (ix3 k c d)
  b5 := fun d => x10 (ix2 0 d)
  w6 := fun k c d => x11 (ix3 k c d)
  b6 := fun d => x12 (ix2 0 d)
  w7 := fun k c d => x13 (ix3 k c d)
  b7 := fun d => x14 (ix2 0 d)
  wd := fun d => x15 (ix2 d 0)
  bd := x16 (ix2 0 0)

/-- The seventh convolution of a block, through the kernel's payloads. -/
def feats : FVec Ideal S64x6x512 .f32 :=
  let y1 := k0_pay2 x0 x1 x2
  let y2 := k0_pay4 y1 (pos y1) (Scalar.ofBits .f32 0x3E99999A#32) x3 x4
  let y3 := k0_pay7 y2 (pos y2) (mulf (slope _) y2) x5 x6
  let y4 := k0_pay9 y3 (pos y3) (Scalar.ofBits .f32 0x3E99999A#32) x7 x8
  let y5 := k0_pay12 y4 (pos y4) (mulf (slope _) y4) x9 x10
  k0_pay16 (k0_pay15 y5 (pos y5) (slope _) x11 x12) x13 x14

/-- The seventh convolution of a block is, sequence by sequence, the network's. -/
theorem feats_apply (n : Fin 64) (X : Fin 181 → Fin 32 → EReal) (hX : ∀ t c, x0 (ix3 n t c) = X t c) (t : Fin 6) (d : Fin 512) :
    feats x0 x1 x2 x3 x4 x5 x6 x7 x8 x9 x10 x11 x12 x13 x14 (ix3 n t d)
      = (params x1 x2 x3 x4 x5 x6 x7 x8 x9 x10 x11 x12 x13 x14 x15 x16).y7 X t d :=
  conv7_row _ x13 x14 n _
    (conv6_row _ x11 x12 n _
      (conv5_row _ x9 x10 n _
        (conv4_row _ x7 x8 n _
          (conv3_row _ x5 x6 n _
            (conv2_row _ x3 x4 n _
              (conv1_row x0 x1 x2 n X hX)))))) t d

/-- What the kernel stores for a block, through its payloads. -/
def stored : FVec Ideal S8x1 .f32 :=
  let y := feats x0 x1 x2 x3 x4 x5 x6 x7 x8 x9 x10 x11 x12 x13 x14
  k0_pay1 y (pos y) (slope _) x15 x16

/-- What the kernel stores for sample `s` of a block is the network's output at the sample's eight sequences. -/
theorem stored_apply (s : Fin 8) (S : Fin 8 → Fin 181 → Fin 32 → EReal)
    (hS : ∀ (r : Fin 8) t c, x0 (ix3 ⟨8 * s.val + r.val, by omega⟩ t c) = S r t c) :
    stored x0 x1 x2 x3 x4 x5 x6 x7 x8 x9 x10 x11 x12 x13 x14 x15 x16 (ix2 s 0)
      = (params x1 x2 x3 x4 x5 x6 x7 x8 x9 x10 x11 x12 x13 x14 x15 x16).out S :=
  readout_row _ x15 x16 s (fun r => (params x1 x2 x3 x4 x5 x6 x7 x8 x9 x10 x11 x12 x13 x14 x15 x16).y7 (S r))
    (fun r t d => feats_apply x0 x1 x2 x3 x4 x5 x6 x7 x8 x9 x10 x11 x12 x13 x14 x15 x16 _ (S r) (hS r) t d)

end Block

end Cert.KernelIdeal.Rows
end
-- ==== Proof.Array.lean ====
module

public import proofs.«01_k».proof.Proof.Kernel
public import proofs.«01_k».proof.Proof.Gen.KernelIdeal.Value
public import Idealize.ShloMosaic.Lib.Pipeline.ValueKit
public import Idealize.ShloMosaic.Lib.Claim

@[expose] public section

set_option maxRecDepth 16384

noncomputable section

/-! The kernel's result array after the run: for each sample, the network's output at the sample's eight sequences. -/

namespace Cert.KernelIdeal.Rows

open Idealize.ShloMosaic Idealize.ShloMosaic.TcCoe Idealize.SL.Sem Cert.Cnn Cert.KernelIdeal.Gen Cert.KernelIdeal
open Idealize.ShloMosaic.Pipeline (Dat)

/-- The offsets of a whole two-axis load are zero. -/
theorem hz2 : (![0, 0] : Fin 2 → Nat) = fun _ => 0 := funext fun a => by fin_cases a <;> rfl
/-- The offsets of a whole three-axis load are zero. -/
theorem hz3 : (![0, 0, 0] : Fin 3 → Nat) = fun _ => 0 := funext fun a => by fin_cases a <;> rfl

/-- What the body leaves in the result's staging buffer is `stored` of the blocks it was given. -/
theorem out_eq (x0 : Vec Ideal S64x181x32 .bf16) (x1 : Vec Ideal S5x32x64 .bf16) (x2 : Vec Ideal S1x64 .f32)
    (x3 : Vec Ideal S5x64x64 .bf16) (x4 : Vec Ideal S1x64 .f32) (x5 : Vec Ideal S5x64x128 .bf16) (x6 : Vec Ideal S1x128 .f32)
    (x7 : Vec Ideal S5x128x128 .bf16) (x8 : Vec Ideal S1x128 .f32) (x9 : Vec Ideal S5x128x256 .bf16) (x10 : Vec Ideal S1x256 .f32)
    (x11 : Vec Ideal S5x256x256 .bf16) (x12 : Vec Ideal S1x256 .f32) (x13 : Vec Ideal S5x256x512 .bf16)
    (x14 : Vec Ideal S1x512 .f32) (x15 : Vec Ideal S512x1 .f32) (x16 : Vec Ideal S1x1 .f32) :
    out0_17 x0 x1 x2 x3 x4 x5 x6 x7 x8 x9 x10 x11 x12 x13 x14 x15 x16 = stored x0 x1 x2 x3 x4 x5 x6 x7 x8 x9 x10 x11 x12 x13 x14 x15 x16 := by
  unfold_out out0_17
  rw [View.canon_unit_zero hz2]
  have e0 : View.ld x0 r0_0 = x0 := View.ld_unit_zero hz3 _ _
  have e1 : View.ld x1 r0_1 = x1 := View.ld_unit_zero hz3 _ _
  have e2 : View.ld x2 r0_2 = x2 := View.ld_unit_zero hz2 _ _
  have e3 : View.ld x3 r0_3 = x3 := View.ld_unit_zero hz3 _ _
  have e4 : View.ld x4 r0_2 = x4 := View.ld_unit_zero hz2 _ _
  have e5 : View.ld x5 r0_4 = x5 := View.ld_unit_zero hz3 _ _
  have e6 : View.ld x6 r0_5 = x6 := View.ld_unit_zero hz2 _ _
  have e7 : View.ld x7 r0_6 = x7 := View.ld_unit_zero hz3 _ _
  have e8 : View.ld x8 r0_5 = x8 := View.ld_unit_zero hz2 _ _
  have e9 : View.ld x9 r0_7 = x9 := View.ld_unit_zero hz3 _ _
  have e10 : View.ld x10 r0_8 = x10 := View.ld_unit_zero hz2 _ _
  have e11 : View.ld x11 r0_9 = x11 := View.ld_unit_zero hz3 _ _
  have e12 : View.ld x12 r0_8 = x12 := View.ld_unit_zero hz2 _ _
  have e13 : View.ld x13 r0_10 = x13 := View.ld_unit_zero hz3 _ _
  have e14 : View.ld x14 r0_11 = x14 := View.ld_unit_zero hz2 _ _
  have e15 : View.ld x15 r0_12 = x15 := View.ld_unit_zero hz2 _ _
  have e16 : View.ld x16 r0_13 = x16 := View.ld_unit_zero hz2 _ _
  simp only [e0, e1, e2, e3, e4, e5, e6, e7, e8, e9, e10, e11, e12, e13, e14, e15, e16]
  rfl

variable (m : (ℓ : Loc nD τ sig) → Buf (Elt Ideal) ℓ)

/-- The windows' block indices: the sequences and the result move with the grid's point, everything else stays. -/
theorem idx : ∀ t : Fin cfg0.N, win0_0.index t = ![t.val, 0, 0]
    ∧ win0_1.index t = ![0, 0, 0]
    ∧ win0_2.index t = ![0, 0]
    ∧ win0_3.index t = ![0, 0, 0]
    ∧ win0_4.index t = ![0, 0]
    ∧ win0_5.index t = ![0, 0, 0]
    ∧ win0_6.index t = ![0, 0]
    ∧ win0_7.index t = ![0, 0, 0]
    ∧ win0_8.index t = ![0, 0]
    ∧ win0_9.index t = ![0, 0, 0]
    ∧ win0_10.index t = ![0, 0]
    ∧ win0_11.index t = ![0, 0, 0]
    ∧ win0_12.index t = ![0, 0]
    ∧ win0_13.index t = ![0, 0, 0]
    ∧ win0_14.index t = ![0, 0]
    ∧ win0_15.index t = ![0, 0]
    ∧ win0_16.index t = ![0, 0]
    ∧ win0_17.index t = ![t.val, 0] :=
  (by decide +kernel : ∀ t : Fin grid0.N, _)

/-- The samples' sequences, one after another, read off the argument array. -/
def seqs (a0 : FVec Ideal S185344x32 .f32) : FVec Ideal S1024x181x32 .f32 :=
  shapeCast S1024x181x32 (transpose S128x8x181x32 [0, 2, 1, 3] (shapeCast S128x181x8x32 a0 shapeCasts_S185344x32_S128x181x8x32)
    transposes_S128x181x8x32_S128x8x181x32_0_2_1_3) shapeCasts_S128x8x181x32_S1024x181x32

/-- The block of sequences at point `t`. -/
theorem block_seqs (c : Dev nD) (t : Fin cfg0.N) (n : Fin 64) (p : Fin 181) (d : Fin 32) :
    iblk m c 0 t (ix3 n p d) = seqs (m ((c : Thread nD τ).loc main_arg0)) (ix3 ⟨64 * t.val + n.val, by have : t.val < 16 := t.isLt; omega⟩ p d) := by
  have hi := (idx t).1
  blk_simp [iblk, hi]
  entry_read
  show seqs (m ((c : Thread nD τ).loc main_arg0)) _ = _
  blk_ext [idx t]
  all_goals trace_state

/-- The network's parameters, read off the blocks at any point, are those of the argument arrays. -/
theorem block_params (c : Dev nD) (t : Fin cfg0.N) :
    params (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
      = Params.ofArrays (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  unfold params Params.ofArrays
  rw [Params.mk.injEq]
  refine ⟨?_, ?_, ?_, ?_, ?_, ?_, ?_, ?_, ?_, ?_, ?_, ?_, ?_, ?_, ?_, ?_⟩
  all_goals first
    | (funext k i d; blk_point [iblk, V, idx t]; done)
    | (funext d; blk_point [iblk, V, idx t]; done)
    | (blk_point [iblk, V, idx t]; done)

/-- What the network makes of the argument arrays, sample by sample. -/
def answer (c : Dev nD) : FVec Ideal S128x1 .f32 := fun i =>
  (Params.ofArrays (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))).out
    fun r t d => seqs (m ((c : Thread nD τ).loc main_arg0)) (ix3 ⟨8 * (i 0).val + r.val, by have : (i 0).val < 128 := (i 0).isLt; omega⟩ t d)

/-- What point `t` stores for sample `s` of its block. -/
theorem point (c : Dev nD) (t : Fin cfg0.N) (s : Fin 8) :
    stored (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 s 0)
      = answer m c (ix2 ⟨8 * t.val + s.val, by have : t.val < 16 := t.isLt; omega⟩ 0) := by
  refine (stored_apply _ _ _ _ _ _ _ _ _ _ _ _ _ _ _ _ _ s _ fun r p d => block_seqs m c t _ p d).trans ?_
  rw [block_params]
  refine congrArg (Params.out _) (funext fun r => funext fun p => funext fun d => ?_)
  refine congrArg (fun n => seqs _ (ix3 n p d)) (Fin.ext ?_)
  show 64 * t.val + (8 * s.val + r.val) = 8 * (8 * t.val + s.val) + r.val
  omega

/-- The result array after the run. -/
theorem final (c : Dev nD) : (dats m 0 c).arrAt 17 cfg0.N = answer m c := by
  refine (dats m 0 c).arrAt_eq_of_covers 17 _ (by decide +kernel) fun t _ y => ?_
  blk_simp
  rw [after0_17, out_eq]
  have hs : ∃ s : Fin 8, y = ix2 s 0 := ⟨y 0, funext fun a => by
    fin_cases a
    · rfl
    · exact Fin.ext (Nat.lt_one_iff.1 (y 1).isLt)⟩
  obtain ⟨s, rfl⟩ := hs
  refine (point m c t s).trans (congrArg (answer m c) ?_)
  blk_ext [idx t]

end Cert.KernelIdeal.Rows
end
-- ==== Proof.Reference.lean ====
module

public import proofs.«01_k».proof.Proof.Conv
public import proofs.«01_k».proof.Proof.Gen.ReferenceIdeal.Run

@[expose] public section

set_option maxRecDepth 16384

noncomputable section

/-! The reference's convolutions, sequence by sequence: each is the network's layer of the sequence in the same row. -/

namespace Cert.ReferenceIdeal.Rows

open Idealize.ShloMosaic Idealize.ShloMosaic.TcCoe Idealize.ShloMosaic.StableHlo Cert.Cnn Cert.ReferenceIdeal Cert.ReferenceIdeal.Gen Cert.ReferenceIdeal.Value

/-! ## The matrix products -/

/-- The first convolution's product, read at an entry, is the sum over the channels. -/
theorem prod1 : IsHostProduct dot_S1024x181x32_S32x64_S1024x181x64_2_0_01_1_n_n := fun a b n t d => by pointwise
/-- The second convolution's product, read at an entry, is the sum over the channels. -/
theorem prod2 : IsHostProduct dot_S1024x181x64_S64x64_S1024x181x64_2_0_01_1_n_n := fun a b n t d => by pointwise
/-- The third convolution's product, read at an entry, is the sum over the channels. -/
theorem prod3 : IsHostProduct dot_S1024x60x64_S64x128_S1024x60x128_2_0_01_1_n_n := fun a b n t d => by pointwise
/-- The fourth convolution's product, read at an entry, is the sum over the channels. -/
theorem prod4 : IsHostProduct dot_S1024x60x128_S128x128_S1024x60x128_2_0_01_1_n_n := fun a b n t d => by pointwise
/-- The fifth convolution's product, read at an entry, is the sum over the channels. -/
theorem prod5 : IsHostProduct dot_S1024x20x128_S128x256_S1024x20x256_2_0_01_1_n_n := fun a b n t d => by pointwise
/-- The sixth convolution's product, read at an entry, is the sum over the channels. -/
theorem prod6 : IsHostProduct dot_S1024x20x256_S256x256_S1024x20x256_2_0_01_1_n_n := fun a b n t d => by pointwise
/-- The seventh convolution's product, read at an entry, is the sum over the channels. -/
theorem prod7 : IsHostProduct dot_S1024x6x256_S256x512_S1024x6x512_2_0_01_1_n_n := fun a b n t d => by pointwise

/-! ## The bias and the padding -/

/-- A bias broadcast over the sequences and their positions. -/
def rBias {N L D : Nat} (h1 : (⟨1, ![D]⟩ : Shape).BroadcastsInDim ⟨3, ![1, 1, D]⟩ ![2])
    (h2 : (⟨3, ![1, 1, D]⟩ : Shape).BroadcastsInDim ⟨3, ![N, L, D]⟩ ![0, 1, 2]) (b : FVec Ideal ⟨1, ![D]⟩ .f32) :
    FVec Ideal ⟨3, ![N, L, D]⟩ .f32 :=
  broadcastInDim ⟨3, ![N, L, D]⟩ ![0, 1, 2] h2 (broadcastInDim ⟨3, ![1, 1, D]⟩ ![2] h1 b)

/-- A broadcast bias at an entry is the bias of the entry's channel. -/
theorem rBias_apply {N L D : Nat} (hD : D ≠ 1) (h1 : (⟨1, ![D]⟩ : Shape).BroadcastsInDim ⟨3, ![1, 1, D]⟩ ![2])
    (h2 : (⟨3, ![1, 1, D]⟩ : Shape).BroadcastsInDim ⟨3, ![N, L, D]⟩ ![0, 1, 2]) (b : FVec Ideal ⟨1, ![D]⟩ .f32)
    (n : Fin N) (t : Fin L) (d : Fin D) : rBias h1 h2 b (ix3 n t d) = b (ix1 d) := by
  unfold rBias
  rw [broadcastInDim_apply _ h2 _ _ (ix3 0 0 d) ?_, broadcastInDim_apply _ h1 _ _ (ix1 d) ?_]
  · intro a
    fin_cases a
    exact (if_neg hD).symm
  · intro a
    fin_cases a
    · rfl
    · rfl
    · exact (if_neg hD).symm

/-- The padding value is zero. -/
theorem zero_pad : (sitofp .f32 (constantI S_ 32 0#32) : FVec Ideal S_ .f32) (Shape.Idx.first h_S_) = 0 := by
  show (((0#32 : BitVec 32).toInt : ℝ) : EReal) = 0
  simp

/-- The reference's padding of an array of sequences, at the numbers of positions and channels of one layer. -/
def rPad {N L C P : Nat} (h : (⟨3, ![N, L, C]⟩ : Shape).Pads ![0, 2, 0] ![0, 2, 0] ![0, 0, 0] ⟨3, ![N, P, C]⟩)
    (x : FVec Ideal ⟨3, ![N, L, C]⟩ .f32) : FVec Ideal ⟨3, ![N, P, C]⟩ .f32 :=
  pad ⟨3, ![N, P, C]⟩ ![0, 2, 0] ![0, 2, 0] ![0, 0, 0] x (sitofp .f32 (constantI S_ 32 0#32)) h h_S_

/-- A layer of the reference: the convolution of the padded array is, sequence by sequence, the five-tap convolution. -/
theorem rLayer_apply {N L C D P : Nat} {dd : DotDims ⟨3, ![N, L, C]⟩ ⟨2, ![C, D]⟩ ⟨3, ![N, L, D]⟩} (hd : IsHostProduct dd)
    (hP : P = L + 4) (hD : D ≠ 1) (h : (⟨3, ![N, L, C]⟩ : Shape).Pads ![0, 2, 0] ![0, 2, 0] ![0, 0, 0] ⟨3, ![N, P, C]⟩)
    (h1 : (⟨1, ![D]⟩ : Shape).BroadcastsInDim ⟨3, ![1, 1, D]⟩ ![2])
    (h2 : (⟨3, ![1, 1, D]⟩ : Shape).BroadcastsInDim ⟨3, ![N, L, D]⟩ ![0, 1, 2])
    (x : FVec Ideal ⟨3, ![N, L, C]⟩ .f32) (w : FVec Ideal ⟨3, ![5, C, D]⟩ .f32) (b : FVec Ideal ⟨1, ![D]⟩ .f32) (n : Fin N)
    (X : Fin L → Fin C → EReal) (hX : ∀ t c, x (ix3 n t c) = X t c) (t : Fin L) (d : Fin D) :
    rConv dd hP (rPad h x) w (rBias h1 h2 b) (ix3 n t d) = conv (fun k c d => w (ix3 k c d)) (fun d => b (ix1 d)) X t d := by
  refine rConv_apply hd hP (rPad h x) w _ _ (rBias_apply hD h1 h2 b) X n (fun j c => ?_) t d
  rw [rPad, pad_tap_apply hP x _ _ zero_pad, show (fun t c => x (ix3 n t c)) = X from funext₂ hX]

/-! ## The poolings -/

/-- The greatest of each window of three, at 60 windows. -/
theorem max_60 (x : FVec Ideal S1024x60x3x64 .f32) (n : Fin 1024) (t : Fin 60) (c : Fin 64) :
    Host.reduce FloatOps.maximumf x (constant S_ .f32 0xFF800000#32) reducesTo_S1024x60x3x64_S1024x60x64_d2 h_S_ (ix3 n t c)
      = max3 fun k => x (ix4 n t k c) := by
  rw [← fold_max3, ← negInf_f32]; pointwise

/-- The reference's pooling to 60 positions. -/
def rPool60 (a : FVec Ideal S1024x181x64 .f32) : FVec Ideal S1024x60x64 .f32 :=
  Host.reduce FloatOps.maximumf (shapeCast S1024x60x3x64 (extractStridedSlice S1024x180x64 ![0, 0, 0] a slices_S1024x181x64_S1024x180x64_0_0_0)
    shapeCasts_S1024x180x64_S1024x60x3x64) (constant S_ .f32 0xFF800000#32) reducesTo_S1024x60x3x64_S1024x60x64_d2 h_S_

/-- The reference's pooling to 60 positions, sequence by sequence. -/
theorem pool_60 (a : FVec Ideal S1024x181x64 .f32) (n : Fin 1024) (A : Fin 181 → Fin 64 → EReal)
    (hA : ∀ t c, a (ix3 n t c) = A t c) (t : Fin 60) (c : Fin 64) : rPool60 a (ix3 n t c) = pool 60 (by decide) A t c := by
  unfold rPool60
  rw [max_60]
  exact congrArg max3 (funext fun k => by rw [windows_apply (L' := 60) (by norm_num) (by norm_num), hA])

/-- The greatest of each window of three, at 20 windows. -/
theorem max_20 (x : FVec Ideal S1024x20x3x128 .f32) (n : Fin 1024) (t : Fin 20) (c : Fin 128) :
    Host.reduce FloatOps.maximumf x (constant S_ .f32 0xFF800000#32) reducesTo_S1024x20x3x128_S1024x20x128_d2 h_S_ (ix3 n t c)
      = max3 fun k => x (ix4 n t k c) := by
  rw [← fold_max3, ← negInf_f32]; pointwise

/-- The reference's pooling to 20 positions. -/
def rPool20 (a : FVec Ideal S1024x60x128 .f32) : FVec Ideal S1024x20x128 .f32 :=
  Host.reduce FloatOps.maximumf (shapeCast S1024x20x3x128 a
    shapeCasts_S1024x60x128_S1024x20x3x128) (constant S_ .f32 0xFF800000#32) reducesTo_S1024x20x3x128_S1024x20x128_d2 h_S_

/-- The reference's pooling to 20 positions, sequence by sequence. -/
theorem pool_20 (a : FVec Ideal S1024x60x128 .f32) (n : Fin 1024) (A : Fin 60 → Fin 128 → EReal)
    (hA : ∀ t c, a (ix3 n t c) = A t c) (t : Fin 20) (c : Fin 128) : rPool20 a (ix3 n t c) = pool 20 (by decide) A t c := by
  unfold rPool20
  rw [max_20]
  exact congrArg max3 (funext fun k => by rw [windows_whole_apply (L' := 20) (by norm_num), hA])

/-- The greatest of each window of three, at 6 windows. -/
theorem max_6 (x : FVec Ideal S1024x6x3x256 .f32) (n : Fin 1024) (t : Fin 6) (c : Fin 256) :
    Host.reduce FloatOps.maximumf x (constant S_ .f32 0xFF800000#32) reducesTo_S1024x6x3x256_S1024x6x256_d2 h_S_ (ix3 n t c)
      = max3 fun k => x (ix4 n t k c) := by
  rw [← fold_max3, ← negInf_f32]; pointwise

/-- The reference's pooling to 6 positions. -/
def rPool6 (a : FVec Ideal S1024x20x256 .f32) : FVec Ideal S1024x6x256 .f32 :=
  Host.reduce FloatOps.maximumf (shapeCast S1024x6x3x256 (extractStridedSlice S1024x18x256 ![0, 0, 0] a slices_S1024x20x256_S1024x18x256_0_0_0)
    shapeCasts_S1024x18x256_S1024x6x3x256) (constant S_ .f32 0xFF800000#32) reducesTo_S1024x6x3x256_S1024x6x256_d2 h_S_

/-- The reference's pooling to 6 positions, sequence by sequence. -/
theorem pool_6 (a : FVec Ideal S1024x20x256 .f32) (n : Fin 1024) (A : Fin 20 → Fin 256 → EReal)
    (hA : ∀ t c, a (ix3 n t c) = A t c) (t : Fin 6) (c : Fin 256) : rPool6 a (ix3 n t c) = pool 6 (by decide) A t c := by
  unfold rPool6
  rw [max_6]
  exact congrArg max3 (funext fun k => by rw [windows_apply (L' := 6) (by norm_num) (by norm_num), hA])

/-- The rectifier, sequence by sequence. -/
theorem act_row {N L C : Nat} (h : (⟨0, ![]⟩ : Shape).BroadcastsInDim ⟨3, ![N, L, C]⟩ ![]) (y : FVec Ideal ⟨3, ![N, L, C]⟩ .f32)
    (n : Fin N) (Y : Fin L → Fin C → EReal) (hY : ∀ t c, y (ix3 n t c) = Y t c) (t : Fin L) (c : Fin C) :
    rAct h y (ix3 n t c) = act Y t c := by
  rw [rAct_apply, hY]; rfl

/-! ## The layers -/

section Layers

variable (V0 : Valuation τ sig (Elt Ideal))

/-- The samples' sequences, one after another, read off the argument array. -/
def seqs (a0 : FVec Ideal S185344x32 .f32) : FVec Ideal S1024x181x32 .f32 :=
  shapeCast S1024x181x32 (transpose S128x8x181x32 [0, 2, 1, 3] (shapeCast S128x181x8x32 a0 shapeCasts_S185344x32_S128x181x8x32)
    transposes_S128x181x8x32_S128x8x181x32_0_2_1_3) shapeCasts_S128x8x181x32_S1024x181x32

/-- The network's parameters, read off the argument arrays. -/
def params : Params :=
  Params.ofArrays (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17))

/-- Sequence `n` of the argument array. -/
def seq (n : Fin 1024) (t : Fin 181) (c : Fin 32) : EReal := seqs (V0 (Proc.devRef .tc main_arg0)) (ix3 n t c)

/-- The first convolution of the reference. -/
theorem layer1 (n : Fin 1024) (t : Fin 181) (d : Fin 64) :
    res_main_v30 V0 (ix3 n t d) = (params V0).y1 (seq V0 n) t d :=
  rLayer_apply prod1 rfl (by decide) pads_S1024x181x32_S1024x185x32_000_220_000
    bcast_S64_S1x1x64_2 bcast_S1x1x64_S1024x181x64_0_1_2 (seqs (V0 (Proc.devRef .tc main_arg0)))
    (V0 (Proc.devRef .tc main_arg2)) (V0 (Proc.devRef .tc main_arg3)) n _ (fun _ _ => rfl) t d

/-- The second convolution of the reference. -/
theorem layer2 (n : Fin 1024) (t : Fin 181) (d : Fin 64) :
    res_main_v63 V0 (ix3 n t d) = (params V0).y2 (seq V0 n) t d :=
  rLayer_apply prod2 rfl (by decide) pads_S1024x181x64_S1024x185x64_000_220_000
    bcast_S64_S1x1x64_2 bcast_S1x1x64_S1024x181x64_0_1_2 (rAct bcast_S_S1024x181x64 (res_main_v30 V0))
    (V0 (Proc.devRef .tc main_arg4)) (V0 (Proc.devRef .tc main_arg5)) n _ (act_row bcast_S_S1024x181x64 (res_main_v30 V0) n _ (layer1 V0 n)) t d

/-- The third convolution of the reference. -/
theorem layer3 (n : Fin 1024) (t : Fin 60) (d : Fin 128) :
    res_main_v99 V0 (ix3 n t d) = (params V0).y3 (seq V0 n) t d :=
  rLayer_apply prod3 rfl (by decide) pads_S1024x60x64_S1024x64x64_000_220_000
    bcast_S128_S1x1x128_2 bcast_S1x1x128_S1024x60x128_0_1_2 (rPool60 (rAct bcast_S_S1024x181x64 (res_main_v63 V0)))
    (V0 (Proc.devRef .tc main_arg6)) (V0 (Proc.devRef .tc main_arg7)) n _ (pool_60 (rAct bcast_S_S1024x181x64 (res_main_v63 V0)) n _ (act_row bcast_S_S1024x181x64 (res_main_v63 V0) n _ (layer2 V0 n))) t d

/-- The fourth convolution of the reference. -/
theorem layer4 (n : Fin 1024) (t : Fin 60) (d : Fin 128) :
    res_main_v132 V0 (ix3 n t d) = (params V0).y4 (seq V0 n) t d :=
  rLayer_apply prod4 rfl (by decide) pads_S1024x60x128_S1024x64x128_000_220_000
    bcast_S128_S1x1x128_2 bcast_S1x1x128_S1024x60x128_0_1_2 (rAct bcast_S_S1024x60x128 (res_main_v99 V0))
    (V0 (Proc.devRef .tc main_arg8)) (V0 (Proc.devRef .tc main_arg9)) n _ (act_row bcast_S_S1024x60x128 (res_main_v99 V0) n _ (layer3 V0 n)) t d

/-- The fifth convolution of the reference. -/
theorem layer5 (n : Fin 1024) (t : Fin 20) (d : Fin 256) :
    res_main_v167 V0 (ix3 n t d) = (params V0).y5 (seq V0 n) t d :=
  rLayer_apply prod5 rfl (by decide) pads_S1024x20x128_S1024x24x128_000_220_000
    bcast_S256_S1x1x256_2 bcast_S1x1x256_S1024x20x256_0_1_2 (rPool20 (rAct bcast_S_S1024x60x128 (res_main_v132 V0)))
    (V0 (Proc.devRef .tc main_arg10)) (V0 (Proc.devRef .tc main_arg11)) n _ (pool_20 (rAct bcast_S_S1024x60x128 (res_main_v132 V0)) n _ (act_row bcast_S_S1024x60x128 (res_main_v132 V0) n _ (layer4 V0 n))) t d

/-- The sixth convolution of the reference. -/
theorem layer6 (n : Fin 1024) (t : Fin 20) (d : Fin 256) :
    res_main_v200 V0 (ix3 n t d) = (params V0).y6 (seq V0 n) t d :=
  rLayer_apply prod6 rfl (by decide) pads_S1024x20x256_S1024x24x256_000_220_000
    bcast_S256_S1x1x256_2 bcast_S1x1x256_S1024x20x256_0_1_2 (rAct bcast_S_S1024x20x256 (res_main_v167 V0))
    (V0 (Proc.devRef .tc main_arg12)) (V0 (Proc.devRef .tc main_arg13)) n _ (act_row bcast_S_S1024x20x256 (res_main_v167 V0) n _ (layer5 V0 n)) t d

/-- The seventh convolution of the reference. -/
theorem layer7 (n : Fin 1024) (t : Fin 6) (d : Fin 512) :
    res_main_v236 V0 (ix3 n t d) = (params V0).y7 (seq V0 n) t d :=
  rLayer_apply prod7 rfl (by decide) pads_S1024x6x256_S1024x10x256_000_220_000
    bcast_S512_S1x1x512_2 bcast_S1x1x512_S1024x6x512_0_1_2 (rPool6 (rAct bcast_S_S1024x20x256 (res_main_v200 V0)))
    (V0 (Proc.devRef .tc main_arg14)) (V0 (Proc.devRef .tc main_arg15)) n _ (pool_6 (rAct bcast_S_S1024x20x256 (res_main_v200 V0)) n _ (act_row bcast_S_S1024x20x256 (res_main_v200 V0) n _ (layer6 V0 n))) t d

end Layers

end Cert.ReferenceIdeal.Rows
end
-- ==== Proof.Readout.lean ====
module

public import proofs.«01_k».proof.Proof.Reference

@[expose] public section

set_option maxRecDepth 16384

noncomputable section

/-! The reference's readout: the sum over each sample's sequences, the mean, the dense layer and the logistic function. -/

namespace Cert.ReferenceIdeal.Rows

open Idealize.ShloMosaic Idealize.ShloMosaic.TcCoe Idealize.ShloMosaic.StableHlo Cert.Cnn Cert.ReferenceIdeal Cert.ReferenceIdeal.Gen Cert.ReferenceIdeal.Value

/-! ## The mean over a sample's sequences -/

/-- The sample of each sequence, as the reference counts it. -/
def sampleOf : IVec S1024x1 32 :=
  broadcastInDim S1024x1 ![0] bcast_S1024_S1024x1_0 (shapeCast S1024 (broadcastInDim S128x8 ![0] bcast_S128_S128x8_0
    (iotaInDim S128 32 0)) shapeCasts_S128x8_S1024)

/-- Sequence `n` belongs to sample `n / 8`. -/
theorem sampleOf_apply (n : Fin 1024) (z : Fin 1) : sampleOf (ix2 n z) = BitVec.ofNat 32 (n.val / 8) := by
  unfold sampleOf
  pointwise

/-- Where the reference's sum over the sequences puts an entry: its sample's row, the same channel. -/
theorem lands (n : Fin 1024) (d : Fin 512) :
    scatter_S128x512_S1024x1_S1024x512_1_0_0_1.resultIdx? (ix2 n d) sampleOf = some (ix2 ⟨n.val / 8, by omega⟩ d) := by
  have hs : scatter_S128x512_S1024x1_S1024x512_1_0_0_1.start (ix2 n d) sampleOf 0 = (n.val / 8 : ℕ) := by
    have h : scatter_S128x512_S1024x1_S1024x512_1_0_0_1.start (ix2 n d) sampleOf 0 = (sampleOf (ix2 n 0)).toInt := by
      unfold ScatterDims.start
      rw [dif_pos (by decide)]
      refine congrArg (fun i => (sampleOf i).toInt) (funext fun a => ?_)
      fin_cases a <;> rfl
    rw [h, sampleOf_apply, BitVec.toInt_ofNat', Int.bmod_def]
    split <;> omega
  have hs1 : scatter_S128x512_S1024x1_S1024x512_1_0_0_1.start (ix2 n d) sampleOf 1 = 0 := rfl
  have hw0 : scatter_S128x512_S1024x1_S1024x512_1_0_0_1.window (ix2 n d) 0 = 0 := rfl
  have hw1 : scatter_S128x512_S1024x1_S1024x512_1_0_0_1.window (ix2 n d) 1 = d.val := rfl
  unfold ScatterDims.resultIdx?
  rw [dif_pos]
  · refine congrArg some (funext fun a => ?_)
    fin_cases a
    · refine Fin.ext ?_
      show (scatter_S128x512_S1024x1_S1024x512_1_0_0_1.start (ix2 n d) sampleOf 0
        + scatter_S128x512_S1024x1_S1024x512_1_0_0_1.window (ix2 n d) 0).toNat = n.val / 8
      rw [hs, hw0]; omega
    · refine Fin.ext ?_
      show (scatter_S128x512_S1024x1_S1024x512_1_0_0_1.start (ix2 n d) sampleOf 1
        + scatter_S128x512_S1024x1_S1024x512_1_0_0_1.window (ix2 n d) 1).toNat = d.val
      rw [hs1, hw1]; omega
  · intro a
    fin_cases a
    · show 0 ≤ scatter_S128x512_S1024x1_S1024x512_1_0_0_1.start (ix2 n d) sampleOf 0
          + scatter_S128x512_S1024x1_S1024x512_1_0_0_1.window (ix2 n d) 0
        ∧ scatter_S128x512_S1024x1_S1024x512_1_0_0_1.start (ix2 n d) sampleOf 0
          + scatter_S128x512_S1024x1_S1024x512_1_0_0_1.window (ix2 n d) 0 < (128 : ℕ)
      rw [hs, hw0]; omega
    · show 0 ≤ scatter_S128x512_S1024x1_S1024x512_1_0_0_1.start (ix2 n d) sampleOf 1
          + scatter_S128x512_S1024x1_S1024x512_1_0_0_1.window (ix2 n d) 1
        ∧ scatter_S128x512_S1024x1_S1024x512_1_0_0_1.start (ix2 n d) sampleOf 1
          + scatter_S128x512_S1024x1_S1024x512_1_0_0_1.window (ix2 n d) 1 < (512 : ℕ)
      rw [hs1, hw1]; omega

/-- The sum of an array of sequences over each sample's eight sequences. -/
theorem scatter_apply (upd : FVec Ideal S1024x512 .f32) (x : FVec Ideal S128x512 .f32) (s : Fin 128) (d : Fin 512) :
    Host.scatterAdd scatter_S128x512_S1024x1_S1024x512_1_0_0_1 x sampleOf upd (ix2 s d)
      = x (ix2 s d) + ∑ r : Fin 8, (upd (ix2 ⟨8 * s.val + r.val, by omega⟩ d) : EReal) := by
  show x (ix2 s d) + ∑ j ∈ Finset.univ.filter (fun j => scatter_S128x512_S1024x1_S1024x512_1_0_0_1.resultIdx? j sampleOf
    = some (ix2 s d)), (upd j : EReal) = _
  refine congrArg (x (ix2 s d) + ·) ?_
  rw [Finset.sum_filter, ValueIdx.sum_idx2, Fin.sum_univ_tiles 128 8 rfl]
  have h : ∀ (a : Fin 128) (r : Fin 8), (∑ b : Fin 512,
      if scatter_S128x512_S1024x1_S1024x512_1_0_0_1.resultIdx? (ix2 ⟨a.val * 8 + r.val, by omega⟩ b) sampleOf = some (ix2 s d)
        then (upd (ix2 ⟨a.val * 8 + r.val, by omega⟩ b) : EReal) else 0)
      = if a = s then (upd (ix2 ⟨8 * s.val + r.val, by omega⟩ d) : EReal) else 0 := by
    intro a r
    have hiff : ∀ b : Fin 512, (some (ix2 (n0 := 128) (n1 := 512) ⟨(a.val * 8 + r.val) / 8, by omega⟩ b) = some (ix2 s d))
        ↔ (a = s ∧ b = d) := by
      intro b
      constructor
      · intro h
        have h := Option.some.inj h
        have h0 : (a.val * 8 + r.val) / 8 = s.val := congrArg (fun i => (i 0).val) h
        have h1 : b = d := congrFun h 1
        exact ⟨Fin.ext (by omega), h1⟩
      · rintro ⟨rfl, rfl⟩
        refine congrArg (fun n => some (ix2 n b)) (Fin.ext ?_)
        show (a.val * 8 + r.val) / 8 = a.val
        omega
    rw [Finset.sum_congr rfl fun b _ => by rw [lands, if_congr (hiff b) rfl rfl]]
    by_cases ha : a = s
    · subst ha
      rw [if_pos rfl, Finset.sum_eq_single d (fun b _ hb => if_neg fun h => hb h.2) (fun h => absurd (Finset.mem_univ _) h),
        if_pos ⟨rfl, rfl⟩]
      exact congrArg (fun n => upd (ix2 n d)) (Fin.ext (by show a.val * 8 + r.val = 8 * a.val + r.val; omega))
    · rw [if_neg ha]
      exact Finset.sum_eq_zero fun b _ => if_neg fun h => ha h.1
  refine (Finset.sum_congr rfl fun a _ => Finset.sum_congr rfl fun r _ => h a r).trans ?_
  rw [Finset.sum_eq_single s (fun a _ ha => Finset.sum_eq_zero fun r _ => if_neg ha) (fun h => absurd (Finset.mem_univ _) h)]
  exact Finset.sum_congr rfl fun r _ => if_pos rfl

/-- The pattern of six. -/
theorem six : Ideal.ofBits .f32 0x40C00000#32 = ((6 : ℝ) : EReal) := by
  simp [Ideal.ofBits, Ideal.ieee, -EReal.coe_mul]; norm_num

/-- The pattern of eight. -/
theorem eight : Ideal.ofBits .f32 0x41000000#32 = ((8 : ℝ) : EReal) := by
  simp [Ideal.ofBits, Ideal.ieee, -EReal.coe_mul]; norm_num

/-- A finite sum times a positive real, term by term. -/
theorem sum_mul_coe {ι : Type} (S : Finset ι) (f : ι → EReal) {a : ℝ} (ha : 0 ≤ a) :
    (∑ i ∈ S, f i) * (a : EReal) = ∑ i ∈ S, f i * (a : EReal) := by
  classical
  induction S using Finset.induction_on with
  | empty => simp
  | insert i S hi ih =>
    rw [Finset.sum_insert hi, Finset.sum_insert hi,
      EReal.right_distrib_of_nonneg_of_ne_top (EReal.coe_nonneg.2 ha) (EReal.coe_ne_top a), ih]

/-- The mean over eight of the means over six is the sum over both times one forty-eighth. -/
theorem mean_mean (f : Fin 8 → Fin 6 → EReal) :
    Ideal.div (∑ r, Ideal.div (∑ t, f r t) (Ideal.ofBits .f32 0x40C00000#32)) (Ideal.ofBits .f32 0x41000000#32)
      = (∑ r, ∑ t, f r t) * ((48⁻¹ : ℝ) : EReal) := by
  rw [six, eight, Ideal.div_coe (by norm_num)]
  simp only [Ideal.div_coe (show (6 : ℝ) ≠ 0 by norm_num)]
  rw [← sum_mul_coe _ _ (by norm_num), mul_assoc, ← EReal.coe_mul]
  norm_num

/-! ## The readout -/

/-- What the reference returns, of its rectified seventh convolution. -/
def rTail (z : FVec Ideal S1024x6x512 .f32) (wd : FVec Ideal S512x1 .f32) (bd : FVec Ideal S1 .f32) : FVec Ideal S128x1 .f32 :=
  Host.divf (broadcastInDim S128x1 ![] bcast_S_S128x1 (constant S_ .f32 0x3F800000#32))
    (addf (broadcastInDim S128x1 ![] bcast_S_S128x1 (constant S_ .f32 0x3F800000#32))
      (Host.exp (Host.negf (addf (Host.dotGeneral dot_S128x512_S512x1_S128x1_1_0_0_1_n_n none
        (Host.divf (Host.scatterAdd scatter_S128x512_S1024x1_S1024x512_1_0_0_1
          (broadcastInDim S128x512 ![] bcast_S_S128x512 (constant S_ .f32 0x00000000#32)) sampleOf
          (Host.divf (Host.reduceAdd z (constant S_ .f32 0x00000000#32) reducesTo_S1024x6x512_S1024x512_d1 h_S_)
            (broadcastInDim S1024x512 ![] bcast_S_S1024x512 (constant S_ .f32 0x40C00000#32))))
          (broadcastInDim S128x512 ![] bcast_S_S128x512 (constant S_ .f32 0x41000000#32))) wd)
        (broadcastInDim S128x1 ![0, 1] bcast_S1x1_S128x1_0_1 (broadcastInDim S1x1 ![1] bcast_S1_S1x1_1 bd))))))

/-- What the reference returns for a sample. -/
theorem rTail_apply (z : FVec Ideal S1024x6x512 .f32) (wd : FVec Ideal S512x1 .f32) (bd : FVec Ideal S1 .f32) (s : Fin 128) :
    rTail z wd bd (ix2 s 0) = Ideal.logistic ((∑ d : Fin 512, ((∑ r : Fin 8, ∑ t : Fin 6,
      z (ix3 ⟨8 * s.val + r.val, by omega⟩ t d)) * ((48⁻¹ : ℝ) : EReal)) * wd (ix2 d 0)) + bd (ix1 0)) := by
  have h : ∀ d : Fin 512, (Host.divf (Host.scatterAdd scatter_S128x512_S1024x1_S1024x512_1_0_0_1
          (broadcastInDim S128x512 ![] bcast_S_S128x512 (constant S_ .f32 0x00000000#32)) sampleOf
          (Host.divf (Host.reduceAdd z (constant S_ .f32 0x00000000#32) reducesTo_S1024x6x512_S1024x512_d1 h_S_)
            (broadcastInDim S1024x512 ![] bcast_S_S1024x512 (constant S_ .f32 0x40C00000#32))))
          (broadcastInDim S128x512 ![] bcast_S_S128x512 (constant S_ .f32 0x41000000#32)) : FVec Ideal S128x512 .f32) (ix2 s d)
      = (∑ r : Fin 8, ∑ t : Fin 6, z (ix3 ⟨8 * s.val + r.val, by omega⟩ t d)) * ((48⁻¹ : ℝ) : EReal) := by
    intro d
    rw [← mean_mean]
    refine congrArg₂ Ideal.div ((scatter_apply _ _ s d).trans ?_) rfl
    pointwise
  unfold rTail
  generalize (Host.divf (Host.scatterAdd _ _ _ _) _ : FVec Ideal S128x512 .f32) = u at h ⊢
  pointwise
  simp only [h]
  rfl

/-- The reference's result. -/
def result (V0 : Valuation τ sig (Elt Ideal)) : FVec Ideal S128x1 .f32 :=
  rTail (rAct bcast_S_S1024x6x512 (res_main_v236 V0)) (V0 (Proc.devRef .tc main_arg16)) (V0 (Proc.devRef .tc main_arg17))

/-- The reference's result for a sample is the network's output at the sample's eight sequences. -/
theorem result_apply (V0 : Valuation τ sig (Elt Ideal)) (s : Fin 128) :
    result V0 (ix2 s 0) = (params V0).out fun r => seq V0 ⟨8 * s.val + r.val, by omega⟩ := by
  refine (rTail_apply _ _ _ s).trans ?_
  refine congrArg Ideal.logistic (congrArg₂ (· + ·) (Finset.sum_congr rfl fun d _ => ?_) rfl)
  refine congrArg₂ (· * ·) (congrArg (· * _) (Finset.sum_congr rfl fun r _ => Finset.sum_congr rfl fun t _ => ?_)) rfl
  exact act_row bcast_S_S1024x6x512 (res_main_v236 V0) _ _ (layer7 V0 _) t d

end Cert.ReferenceIdeal.Rows
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Array
public import proofs.«01_k».proof.Proof.Readout
public import proofs.«01_k».proof.Proof.Gen.ReferenceIdeal.Run
public import proofs.«01_k».proof.Proof.Gen.ReferenceIdeal
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem

/-- The kernel runs to its end, its arguments unchanged. -/
theorem frame_p : Cert.quiescent_Kernel := fun m ρ _ => Cert.Kernel.Gen.frame m ρ

/-- The idealized kernel runs to its end, its arguments unchanged. -/
theorem frame_pi : Cert.quiescent_KernelIdeal := fun m ρ _ => Cert.KernelIdeal.Gen.frame m ρ

/-- The reference runs to its end, its arguments unchanged. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The idealized kernel's named constant is one forty-eighth. -/
theorem preserves : Cert.preserves_Kernel_KernelIdeal :=
  IdealRules.named_const.statement Cert.KernelIdeal.κ "inv48" .f32 0x3CAAAAAB#32 ((48⁻¹ : ℝ) : EReal) rfl

/-- From arguments that agree, the reference's result is the kernel's result array. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Rows.result (launchContents m' c) = Cert.KernelIdeal.Rows.answer m c := by
  obtain ⟨h0, -, h2, h3, h4, h5, h6, h7, h8, h9, h10, h11, h12, h13, h14, h15, h16, h17⟩ := hagree
  funext i
  have hi : ∃ s : Fin 128, i = ix2 s 0 := ⟨i 0, funext fun a => by
    fin_cases a
    · rfl
    · exact Fin.ext (Nat.lt_one_iff.1 (i 1).isLt)⟩
  obtain ⟨s, rfl⟩ := hi
  rw [Cert.ReferenceIdeal.Rows.result_apply]
  unfold Cert.ReferenceIdeal.Rows.params Cert.ReferenceIdeal.Rows.seq Cert.KernelIdeal.Rows.answer
  rw [← h0, ← h2, ← h3, ← h4, ← h5, ← h6, ← h7, ← h8, ← h9, ← h10, ← h11, ← h12, ← h13, ← h14, ← h15, ← h16, ← h17]
  rfl

/-- The idealized kernel and the reference, from arguments that agree, end with equal results. -/
theorem algebraic : Cert.algebraic_KernelIdeal_ReferenceIdeal := by
  intro m ρ m' ρ' _ hagree
  refine ⟨fun c => Cert.KernelIdeal.Rows.answer m c, ?_, ?_⟩
  · exact (θ_run Cert.KernelIdeal.defs _ _).mono
      (fun _ h c => ⟨(h c).1.trans (Cert.KernelIdeal.Rows.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    exact result_eq m m' c (hagree c)

/-- The certificate's claims. -/
theorem claim : Cert.Claim :=
  ⟨Cert.Kernel.Gen.facts, Cert.KernelIdeal.Gen.facts, Cert.ReferenceIdeal.Gen.facts,
    frame_p, frame_pi, frame_ri, preserves, algebraic⟩

end Cert.Proof

end
